-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_bounds [hPre_sorted_bounds : Cert.Pre_sorted_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_bounds [hPre_sorted_bounds : Cert.Pre_sorted_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sorted_bounds [hKernelIdeal : Cert.KernelIdeal.Facts] [hPre_sorted_bounds : Cert.Pre_sorted_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_bounds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_bounds [hReferenceIdeal : Cert.ReferenceIdeal.Facts] [hPre_sorted_bounds : Cert.Pre_sorted_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_sorted_bounds [hKernelIdeal : Cert.KernelIdeal.Facts] [hReferenceIdeal : Cert.ReferenceIdeal.Facts] [hPre_sorted_bounds : Cert.Pre_sorted_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_bounds : Cert.Pre_sorted_bounds.Facts),
    quiescent_Kernel (hKernel := hKernel)
    ∧ quiescent_KernelIdeal (hKernelIdeal := hKernelIdeal)
    ∧ quiescent_KernelIdeal_pre_sorted_bounds (hKernelIdeal := hKernelIdeal) (hPre_sorted_bounds := hPre_sorted_bounds)
    ∧ quiescent_ReferenceIdeal (hReferenceIdeal := hReferenceIdeal)
    ∧ quiescent_ReferenceIdeal_pre_sorted_bounds (hReferenceIdeal := hReferenceIdeal) (hPre_sorted_bounds := hPre_sorted_bounds)
    ∧ preserves_Kernel_KernelIdeal
    ∧ algebraic_KernelIdeal_ReferenceIdeal_pre_sorted_bounds (hKernelIdeal := hKernelIdeal) (hReferenceIdeal := hReferenceIdeal) (hPre_sorted_bounds := hPre_sorted_bounds)
-- ==== Pre_sorted_bounds.lean ====
abbrev S384x12288 : Shape := ⟨2, ![384, 12288]⟩
abbrev S1152x12288 : Shape := ⟨2, ![1152, 12288]⟩
abbrev S2304x12288 : Shape := ⟨2, ![2304, 12288]⟩
abbrev S29 : Shape := ⟨1, ![29]⟩
abbrev S28 : Shape := ⟨1, ![28]⟩
abbrev S12288x2304 : Shape := ⟨2, ![12288, 2304]⟩
abbrev S28x4608 : Shape := ⟨2, ![28, 4608]⟩
abbrev S_ : Shape := ⟨0, ![]⟩
abbrev S1 : Shape := ⟨1, ![1]⟩

class Facts : Prop where
  slices_S29_S28_0 : S29.Slices ![0] S28
  slices_S29_S28_1 : S29.Slices ![1] S28
  reducesTo_S28_S_d0 : S28.ReducesTo [0] S_
  h_S_ : 0 < S_.numel
  slices_S29_S1_0 : S29.Slices ![0] S1
  shapeCasts_S1_S_ : S1.ShapeCasts S_
  slices_S29_S1_28 : S29.Slices ![28] S1

variable [Facts]

def fn {F : FTy → Type} [FloatOps F] (main_arg0 : IVec S384x12288 32) (main_arg1 : IVec S1152x12288 32) (main_arg2 : IVec S2304x12288 32) (main_arg3 : IVec S29 32) (main_arg4 : FVec F S28 .f32) (main_arg5 : IVec S28 32) (main_arg6 : IVec S12288x2304 8) (main_arg7 : FVec F S28x4608 .f32) : IVec S_ 1 :=
  let main_v0 : IVec S28 32 := (extractStridedSlice S28 ![0] · slices_S29_S28_0) main_arg3
  let main_v1 : IVec S28 32 := (extractStridedSlice S28 ![1] · slices_S29_S28_1) main_arg3
  let main_v2 : IVec S28 1 := cmpi .sle main_v0 main_v1
  let main_c : IVec S_ 1 := constantI S_ 1 1#1
  let main_v3 : IVec S_ 1 := (fun x v => Host.reduce IntOp.andi x v reducesTo_S28_S_d0 h_S_) main_v2 main_c
  let main_v4 : IVec S1 32 := (extractStridedSlice S1 ![0] · slices_S29_S1_0) main_arg3
  let main_v5 : IVec S_ 32 := shapeCast S_ main_v4 shapeCasts_S1_S_
  let main_c_0 : IVec S_ 32 := constantI S_ 32 0#32
  let main_v6 : IVec S_ 1 := cmpi .sle main_v5 main_c_0
  let main_v7 : IVec S_ 1 := andi main_v3 main_v6
  let main_v8 : IVec S1 32 := (extractStridedSlice S1 ![28] · slices_S29_S1_28) main_arg3
  let main_v9 : IVec S_ 32 := shapeCast S_ main_v8 shapeCasts_S1_S_
  let main_c_1 : IVec S_ 32 := constantI S_ 32 12288#32
  let main_v10 : IVec S_ 1 := cmpi .sge main_v9 main_c_1
  let main_v11 : IVec S_ 1 := andi main_v7 main_v10
  main_v11
-- ==== Kernel.lean ====
abbrev S384x12288 : Shape := ⟨2, ![384, 12288]⟩
abbrev S1152x12288 : Shape := ⟨2, ![1152, 12288]⟩
abbrev S2304x12288 : Shape := ⟨2, ![2304, 12288]⟩
abbrev S29 : Shape := ⟨1, ![29]⟩
abbrev S28 : Shape := ⟨1, ![28]⟩
abbrev S12288x2304 : Shape := ⟨2, ![12288, 2304]⟩
abbrev S28x4608 : Shape := ⟨2, ![28, 4608]⟩
abbrev S_ : Shape := ⟨0, ![]⟩
abbrev S32x4608 : Shape := ⟨2, ![32, 4608]⟩
abbrev S1x28 : Shape := ⟨2, ![1, 28]⟩
abbrev S2x28 : Shape := ⟨2, ![2, 28]⟩
abbrev S32 : Shape := ⟨1, ![32]⟩
abbrev S1x32 : Shape := ⟨2, ![1, 32]⟩
abbrev S2x32 : Shape := ⟨2, ![2, 32]⟩
abbrev S8x32 : Shape := ⟨2, ![8, 32]⟩
abbrev S12288x4608 : Shape := ⟨2, ![12288, 4608]⟩
abbrev S8x12288 : Shape := ⟨2, ![8, 12288]⟩
abbrev S512x2304 : Shape := ⟨2, ![512, 2304]⟩
abbrev S512x4608 : Shape := ⟨2, ![512, 4608]⟩
abbrev S8x512 : Shape := ⟨2, ![8, 512]⟩
abbrev S1x512 : Shape := ⟨2, ![1, 512]⟩
abbrev S1 : Shape := ⟨1, ![1]⟩
abbrev S1x1 : Shape := ⟨2, ![1, 1]⟩
abbrev S512x32 : Shape := ⟨2, ![512, 32]⟩
abbrev S128x128 : Shape := ⟨2, ![128, 128]⟩
abbrev S128x2304 : Shape := ⟨2, ![128, 2304]⟩
abbrev S128x128x1 : Shape := ⟨3, ![128, 128, 1]⟩
abbrev S512x128 : Shape := ⟨2, ![512, 128]⟩
abbrev S32x128 : Shape := ⟨2, ![32, 128]⟩
abbrev S7680x4608 : Shape := ⟨2, ![7680, 4608]⟩
abbrev S7680x12288 : Shape := ⟨2, ![7680, 12288]⟩
abbrev S384x512 : Shape := ⟨2, ![384, 512]⟩
abbrev S768x4608 : Shape := ⟨2, ![768, 4608]⟩
abbrev S768x512 : Shape := ⟨2, ![768, 512]⟩

abbrev nBuf : Space → Nat
  | .hbm => 38
  | .vmem => 40
  | .smem => 2
  | _ => 0

abbrev bufTy : (tb : Table) → Fin (tcTables nBuf tb) → BufTy
  | .hbm, ⟨0, _⟩ => ⟨S384x12288, .i32⟩
  | .hbm, ⟨1, _⟩ => ⟨S1152x12288, .i32⟩
  | .hbm, ⟨2, _⟩ => ⟨S2304x12288, .i32⟩
  | .hbm, ⟨3, _⟩ => ⟨S29, .i32⟩
  | .hbm, ⟨4, _⟩ => ⟨S28, .f32⟩
  | .hbm, ⟨5, _⟩ => ⟨S28, .i32⟩
  | .hbm, ⟨6, _⟩ => ⟨S12288x2304, .i8⟩
  | .hbm, ⟨7, _⟩ => ⟨S28x4608, .f32⟩
  | .hbm, ⟨8, _⟩ => ⟨S28x4608, .bf16⟩
  | .hbm, ⟨9, _⟩ => ⟨S_, .i32⟩
  | .hbm, ⟨10, _⟩ => ⟨S_, .bf16⟩
  | .hbm, ⟨11, _⟩ => ⟨S32x4608, .bf16⟩
  | .hbm, ⟨12, _⟩ => ⟨S28, .f32⟩
  | .hbm, ⟨13, _⟩ => ⟨S1x28, .f32⟩
  | .hbm, ⟨14, _⟩ => ⟨S1x28, .f32⟩
  | .hbm, ⟨15, _⟩ => ⟨S2x28, .f32⟩
  | .hbm, ⟨16, _⟩ => ⟨S28, .i32⟩
  | .hbm, ⟨17, _⟩ => ⟨S_, .i32⟩
  | .hbm, ⟨18, _⟩ => ⟨S_, .i32⟩
  | .hbm, ⟨19, _⟩ => ⟨S32, .i32⟩
  | .hbm, ⟨20, _⟩ => ⟨S28, .i32⟩
  | .hbm, ⟨21, _⟩ => ⟨S_, .i32⟩
  | .hbm, ⟨22, _⟩ => ⟨S_, .i32⟩
  | .hbm, ⟨23, _⟩ => ⟨S32, .i32⟩
  | .hbm, ⟨24, _⟩ => ⟨S1x32, .i32⟩
  | .hbm, ⟨25, _⟩ => ⟨S1x32, .i32⟩
  | .hbm, ⟨26, _⟩ => ⟨S2x32, .i32⟩
  | .hbm, ⟨27, _⟩ => ⟨S_, .i32⟩
  | .hbm, ⟨28, _⟩ => ⟨S_, .i32⟩
  | .hbm, ⟨29, _⟩ => ⟨S8x32, .i32⟩
  | .hbm, ⟨30, _⟩ => ⟨S12288x4608, .bf16⟩
  | .hbm, ⟨31, _⟩ => ⟨S8x12288, .f32⟩
  | .hbm, ⟨32, _⟩ => ⟨S7680x4608, .bf16⟩
  | .hbm, ⟨33, _⟩ => ⟨S7680x12288, .i8⟩
  | .hbm, ⟨34, _⟩ => ⟨S7680x4608, .bf16⟩
  | .hbm, ⟨35, _⟩ => ⟨S7680x12288, .i8⟩
  | .hbm, ⟨36, _⟩ => ⟨S7680x4608, .bf16⟩
  | .hbm, ⟨37, _⟩ => ⟨S7680x12288, .i8⟩
  | .local _ .vmem, ⟨0, _⟩ => ⟨S8x32, .i32⟩
  | .local _ .vmem, ⟨1, _⟩ => ⟨S32x4608, .bf16⟩
  | .local _ .vmem, ⟨2, _⟩ => ⟨S512x2304, .i8⟩
  | .local _ .vmem, ⟨3, _⟩ => ⟨S512x2304, .i8⟩
  | .local _ .vmem, ⟨4, _⟩ => ⟨S512x4608, .bf16⟩
  | .local _ .vmem, ⟨5, _⟩ => ⟨S512x4608, .bf16⟩
  | .local _ .vmem, ⟨6, _⟩ => ⟨S8x512, .f32⟩
  | .local _ .vmem, ⟨7, _⟩ => ⟨S8x512, .f32⟩
  | .local _ .vmem, ⟨8, _⟩ => ⟨S384x512, .i32⟩
  | .local _ .vmem, ⟨9, _⟩ => ⟨S384x512, .i32⟩
  | .local _ .vmem, ⟨10, _⟩ => ⟨S512x4608, .bf16⟩
  | .local _ .vmem, ⟨11, _⟩ => ⟨S512x4608, .bf16⟩
  | .local _ .vmem, ⟨12, _⟩ => ⟨S8x512, .f32⟩
  | .local _ .vmem, ⟨13, _⟩ => ⟨S8x512, .f32⟩
  | .local _ .vmem, ⟨14, _⟩ => ⟨S768x4608, .bf16⟩
  | .local _ .vmem, ⟨15, _⟩ => ⟨S768x512, .i8⟩
  | .local _ .vmem, ⟨16, _⟩ => ⟨S768x512, .i8⟩
  | .local _ .vmem, ⟨17, _⟩ => ⟨S768x4608, .f32⟩
  | .local _ .vmem, ⟨18, _⟩ => ⟨S384x512, .i32⟩
  | .local _ .vmem, ⟨19, _⟩ => ⟨S384x512, .i32⟩
  | .local _ .vmem, ⟨20, _⟩ => ⟨S512x4608, .bf16⟩
  | .local _ .vmem, ⟨21, _⟩ => ⟨S512x4608, .bf16⟩
  | .local _ .vmem, ⟨22, _⟩ => ⟨S8x512, .f32⟩
  | .local _ .vmem, ⟨23, _⟩ => ⟨S8x512, .f32⟩
  | .local _ .vmem, ⟨24, _⟩ => ⟨S768x4608, .bf16⟩
  | .local _ .vmem, ⟨25, _⟩ => ⟨S768x4608, .bf16⟩
  | .local _ .vmem, ⟨26, _⟩ => ⟨S768x512, .i8⟩
  | .local _ .vmem, ⟨27, _⟩ => ⟨S768x512, .i8⟩
  | .local _ .vmem, ⟨28, _⟩ => ⟨S768x4608, .f32⟩
  | .local _ .vmem, ⟨29, _⟩ => ⟨S384x512, .i32⟩
  | .local _ .vmem, ⟨30, _⟩ => ⟨S384x512, .i32⟩
  | .local _ .vmem, ⟨31, _⟩ => ⟨S512x4608, .bf16⟩
  | .local _ .vmem, ⟨32, _⟩ => ⟨S512x4608, .bf16⟩
  | .local _ .vmem, ⟨33, _⟩ => ⟨S8x512, .f32⟩
  | .local _ .vmem, ⟨34, _⟩ => ⟨S8x512, .f32⟩
  | .local _ .vmem, ⟨35, _⟩ => ⟨S768x4608, .bf16⟩
  | .local _ .vmem, ⟨36, _⟩ => ⟨S768x4608, .bf16⟩
  | .local _ .vmem, ⟨37, _⟩ => ⟨S768x512, .i8⟩
  | .local _ .vmem, ⟨38, _⟩ => ⟨S768x512, .i8⟩
  | .local _ .vmem, ⟨39, _⟩ => ⟨S768x4608, .f32⟩
  | .local _ .smem, ⟨0, _⟩ => ⟨S29, .i32⟩
  | .local _ .smem, ⟨1, _⟩ => ⟨S2x28, .f32⟩
  | _, _ => ⟨S384x12288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_call3_v0 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v15_0 : Ref sig .tc := ⟨.hbm, 32, rfl⟩
abbrev main_v15_1 : Ref sig .tc := ⟨.hbm, 33, rfl⟩
abbrev main_v16_0 : Ref sig .tc := ⟨.hbm, 34, rfl⟩
abbrev main_v16_1 : Ref sig .tc := ⟨.hbm, 35, rfl⟩
abbrev main_v17_0 : Ref sig .tc := ⟨.hbm, 36, rfl⟩
abbrev main_v17_1 : Ref sig .tc := ⟨.hbm, 37, rfl⟩
abbrev cc0_stg1_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg4_1 : Ref sig .tc := ⟨.vmem, 38, rfl⟩
abbrev cc3_scratch0 : Ref sig .tc := ⟨.vmem, 39, rfl⟩
abbrev cc0_stg0_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S29 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S2x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2304 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4608 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![1, 24], ![false, false]⟩

def k1_cond2 (i : grid1.Coords) : BitVec 1 :=
  let arg1 : BitVec 32 := BitVec.ofNat 32 (i 1).val
  let c23_i32 : BitVec 32 := 23#32
  let v35 : BitVec 1 := Scalar.cmpi .eq arg1 c23_i32
  let v36 : BitVec 32 := Scalar.extui v35
  let c0_i32_15 : BitVec 32 := 0#32
  let v37 : BitVec 1 := Scalar.cmpi .ne v36 c0_i32_15
  v37

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage1_0 : Fin 2 → Memref sig .tc .vmem S384x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4608 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S768x4608 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S768x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![3, 24], ![false, false]⟩

def k2_cond2 (i : grid2.Coords) : BitVec 1 :=
  let arg1 : BitVec 32 := BitVec.ofNat 32 (i 1).val
  let c23_i32 : BitVec 32 := 23#32
  let v35 : BitVec 1 := Scalar.cmpi .eq arg1 c23_i32
  let v36 : BitVec 32 := Scalar.extui v35
  let c0_i32_15 : BitVec 32 := 0#32
  let v37 : BitVec 1 := Scalar.cmpi .ne v36 c0_i32_15
  v37

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc2_transform_6 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![v0.toNat, arg1.toNat]

abbrev stage2_0 : Fin 2 → Memref sig .tc .vmem S384x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x4608 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S8x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S768x4608 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S768x512 .i8 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![6, 24], ![false, false]⟩

def k3_cond2 (i : grid3.Coords) : BitVec 1 :=
  let arg1 : BitVec 32 := BitVec.ofNat 32 (i 1).val
  let c23_i32 : BitVec 32 := 23#32
  let v35 : BitVec 1 := Scalar.cmpi .eq arg1 c23_i32
  let v36 : BitVec 32 := Scalar.extui v35
  let c0_i32_15 : BitVec 32 := 0#32
  let v37 : BitVec 1 := Scalar.cmpi .ne v36 c0_i32_15
  v37

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_6 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage3_0 : Fin 2 → Memref sig .tc .vmem S384x512 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x4608 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S768x4608 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S768x512 .i8 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S384x12288 : Shape := ⟨2, ![384, 12288]⟩
abbrev S1152x12288 : Shape := ⟨2, ![1152, 12288]⟩
abbrev S2304x12288 : Shape := ⟨2, ![2304, 12288]⟩
abbrev S29 : Shape := ⟨1, ![29]⟩
abbrev S28 : Shape := ⟨1, ![28]⟩
abbrev S12288x2304 : Shape := ⟨2, ![12288, 2304]⟩
abbrev S28x4608 : Shape := ⟨2, ![28, 4608]⟩
abbrev S12288 : Shape := ⟨1, ![12288]⟩
abbrev S1x12288 : Shape := ⟨2, ![1, 12288]⟩
abbrev S29x1 : Shape := ⟨2, ![29, 1]⟩
abbrev S29x12288 : Shape := ⟨2, ![29, 12288]⟩
abbrev S_ : Shape := ⟨0, ![]⟩
abbrev S384x12288x2 : Shape := ⟨3, ![384, 12288, 2]⟩
abbrev S384x2x12288 : Shape := ⟨3, ![384, 2, 12288]⟩
abbrev S768x12288 : Shape := ⟨2, ![768, 12288]⟩
abbrev S1152x12288x2 : Shape := ⟨3, ![1152, 12288, 2]⟩
abbrev S1152x2x12288 : Shape := ⟨3, ![1152, 2, 12288]⟩
abbrev S2304x12288x2 : Shape := ⟨3, ![2304, 12288, 2]⟩
abbrev S2304x2x12288 : Shape := ⟨3, ![2304, 2, 12288]⟩
abbrev S4608x12288 : Shape := ⟨2, ![4608, 12288]⟩
abbrev S7680x12288 : Shape := ⟨2, ![7680, 12288]⟩
abbrev S12288x1 : Shape := ⟨2, ![12288, 1]⟩
abbrev S28x2304 : Shape := ⟨2, ![28, 2304]⟩
abbrev S7680x2304 : Shape := ⟨2, ![7680, 2304]⟩
abbrev S7680x2304x1 : Shape := ⟨3, ![7680, 2304, 1]⟩
abbrev S7680x2304x2 : Shape := ⟨3, ![7680, 2304, 2]⟩
abbrev S7680x4608 : Shape := ⟨2, ![7680, 4608]⟩

abbrev nBuf : Space → Nat
  | .hbm => 148
  | .vmem => 0
  | .smem => 0
  | _ => 0

abbrev hbmTy0_0 (i : Nat) : BufTy := match i % 128 with
  | 0 => ⟨S384x12288, .i32⟩
  | 1 => ⟨S1152x12288, .i32⟩
  | 2 => ⟨S2304x12288, .i32⟩
  | 3 => ⟨S29, .i32⟩
  | 4 => ⟨S28, .f32⟩
  | 5 => ⟨S28, .i32⟩
  | 6 => ⟨S12288x2304, .i8⟩
  | 7 => ⟨S28x4608, .f32⟩
  | 8 => ⟨S12288, .i32⟩
  | 9 => ⟨S1x12288, .i32⟩
  | 10 => ⟨S29x1, .i32⟩
  | 11 => ⟨S29x12288, .i32⟩
  | 12 => ⟨S29x12288, .i32⟩
  | 13 => ⟨S29x12288, .i1⟩
  | 14 => ⟨S29x12288, .i32⟩
  | 15 => ⟨S_, .i32⟩
  | 16 => ⟨S12288, .i32⟩
  | 17 => ⟨S_, .i32⟩
  | 18 => ⟨S12288, .i32⟩
  | 19 => ⟨S12288, .i32⟩
  | 20 => ⟨S384x12288x2, .bf16⟩
  | 21 => ⟨S384x2x12288, .bf16⟩
  | 22 => ⟨S768x12288, .bf16⟩
  | 23 => ⟨S1152x12288x2, .bf16⟩
  | 24 => ⟨S1152x2x12288, .bf16⟩
  | 25 => ⟨S2304x12288, .bf16⟩
  | 26 => ⟨S2304x12288x2, .bf16⟩
  | 27 => ⟨S2304x2x12288, .bf16⟩
  | 28 => ⟨S4608x12288, .bf16⟩
  | 29 => ⟨S7680x12288, .bf16⟩
  | 30 => ⟨S7680x12288, .f32⟩
  | 31 => ⟨S_, .i32⟩
  | 32 => ⟨S12288, .i32⟩
  | 33 => ⟨S12288, .i1⟩
  | 34 => ⟨S_, .i32⟩
  | 35 => ⟨S12288, .i32⟩
  | 36 => ⟨S12288, .i32⟩
  | 37 => ⟨S12288, .i32⟩
  | 38 => ⟨S12288x1, .i32⟩
  | 39 => ⟨S12288, .f32⟩
  | 40 => ⟨S1x12288, .f32⟩
  | 41 => ⟨S7680x12288, .f32⟩
  | 42 => ⟨S7680x12288, .f32⟩
  | 43 => ⟨S7680x12288, .f32⟩
  | 44 => ⟨S_, .i32⟩
  | 45 => ⟨S12288, .i32⟩
  | 46 => ⟨S12288, .i1⟩
  | 47 => ⟨S_, .i32⟩
  | 48 => ⟨S12288, .i32⟩
  | 49 => ⟨S12288, .i32⟩
  | 50 => ⟨S12288, .i32⟩
  | 51 => ⟨S12288x1, .i32⟩
  | 52 => ⟨S12288, .i32⟩
  | 53 => ⟨S12288, .f32⟩
  | 54 => ⟨S1x12288, .f32⟩
  | 55 => ⟨S7680x12288, .f32⟩
  | 56 => ⟨S7680x12288, .f32⟩
  | 57 => ⟨S_, .f32⟩
  | 58 => ⟨S_, .f32⟩
  | 59 => ⟨S_, .f32⟩
  | 60 => ⟨S7680x12288, .f32⟩
  | 61 => ⟨S7680x12288, .f32⟩
  | 62 => ⟨S_, .f32⟩
  | 63 => ⟨S7680x12288, .f32⟩
  | 64 => ⟨S7680x12288, .f32⟩
  | 65 => ⟨S7680x12288, .i32⟩
  | 66 => ⟨S7680x12288, .i8⟩
  | 67 => ⟨S7680x12288, .i32⟩
  | 68 => ⟨S7680x12288, .bf16⟩
  | 69 => ⟨S_, .i32⟩
  | 70 => ⟨S12288, .i32⟩
  | 71 => ⟨S12288, .i1⟩
  | 72 => ⟨S_, .i32⟩
  | 73 => ⟨S12288, .i32⟩
  | 74 => ⟨S12288, .i32⟩
  | 75 => ⟨S12288, .i32⟩
  | 76 => ⟨S12288x1, .i32⟩
  | 77 => ⟨S12288, .i32⟩
  | 78 => ⟨S12288, .bf16⟩
  | 79 => ⟨S1x12288, .bf16⟩
  | 80 => ⟨S7680x12288, .bf16⟩
  | 81 => ⟨S7680x12288, .bf16⟩
  | 82 => ⟨S_, .i32⟩
  | 83 => ⟨S12288, .i32⟩
  | 84 => ⟨S12288, .i1⟩
  | 85 => ⟨S_, .i32⟩
  | 86 => ⟨S12288, .i32⟩
  | 87 => ⟨S12288, .i32⟩
  | 88 => ⟨S12288, .i32⟩
  | 89 => ⟨S12288x1, .i32⟩
  | 90 => ⟨S12288, .f32⟩
  | 91 => ⟨S12288, .bf16⟩
  | 92 => ⟨S1x12288, .bf16⟩
  | 93 => ⟨S7680x12288, .bf16⟩
  | 94 => ⟨S7680x12288, .bf16⟩
  | 95 => ⟨S12288x2304, .i32⟩
  | 96 => ⟨S_, .i32⟩
  | 97 => ⟨S12288x2304, .i32⟩
  | 98 => ⟨S12288x2304, .i32⟩
  | 99 => ⟨S_, .i32⟩
  | 100 => ⟨S12288x2304, .i32⟩
  | 101 => ⟨S12288x2304, .i1⟩
  | 102 => ⟨S_, .i32⟩
  | 103 => ⟨S12288x2304, .i32⟩
  | 104 => ⟨S12288x2304, .i32⟩
  | 105 => ⟨S12288x2304, .i32⟩
  | 106 => ⟨S12288x2304, .bf16⟩
  | 107 => ⟨S_, .i32⟩
  | 108 => ⟨S12288x2304, .i32⟩
  | 109 => ⟨S12288x2304, .i32⟩
  | 110 => ⟨S_, .i32⟩
  | 111 => ⟨S12288x2304, .i32⟩
  | 112 => ⟨S12288x2304, .i1⟩
  | 113 => ⟨S_, .i32⟩
  | 114 => ⟨S12288x2304, .i32⟩
  | 115 => ⟨S12288x2304, .i32⟩
  | 116 => ⟨S12288x2304, .i32⟩
  | 117 => ⟨S12288x2304, .bf16⟩
  | 118 => ⟨S28x4608, .bf16⟩
  | 119 => ⟨S28x2304, .bf16⟩
  | 120 => ⟨S_, .i32⟩
  | 121 => ⟨S12288, .i32⟩
  | 122 => ⟨S12288, .i1⟩
  | 123 => ⟨S_, .i32⟩
  | 124 => ⟨S12288, .i32⟩
  | 125 => ⟨S12288, .i32⟩
  | 126 => ⟨S12288, .i32⟩
  | 127 => ⟨S12288x1, .i32⟩
  | _ => ⟨S384x12288, .i32⟩

abbrev hbmTy0_1 (i : Nat) : BufTy := match i % 128 with
  | 0 => ⟨S12288x2304, .bf16⟩
  | 1 => ⟨S12288x2304, .bf16⟩
  | 2 => ⟨S28x2304, .bf16⟩
  | 3 => ⟨S_, .i32⟩
  | 4 => ⟨S12288, .i32⟩
  | 5 => ⟨S12288, .i1⟩
  | 6 => ⟨S_, .i32⟩
  | 7 => ⟨S12288, .i32⟩
  | 8 => ⟨S12288, .i32⟩
  | 9 => ⟨S12288, .i32⟩
  | 10 => ⟨S12288x1, .i32⟩
  | 11 => ⟨S12288x2304, .bf16⟩
  | 12 => ⟨S12288x2304, .bf16⟩
  | 13 => ⟨S7680x2304, .f32⟩
  | 14 => ⟨S7680x2304, .f32⟩
  | 15 => ⟨S7680x2304x1, .f32⟩
  | 16 => ⟨S7680x2304x1, .f32⟩
  | 17 => ⟨S7680x2304x2, .f32⟩
  | 18 => ⟨S7680x4608, .f32⟩
  | 19 => ⟨S7680x4608, .bf16⟩
  | _ => ⟨S384x12288, .i32⟩

abbrev hbmTy (i : Nat) : BufTy := match i / 128 with
  | 0 => hbmTy0_0 i
  | 1 => hbmTy0_1 i
  | _ => ⟨S384x12288, .i32⟩

abbrev bufTy : (tb : Table) → Fin (tcTables nBuf tb) → BufTy
  | .hbm, ⟨i, _⟩ => hbmTy i
  | _, _ => ⟨S384x12288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_c : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_5 : Ref sig .tc := ⟨.hbm, 69, rfl⟩
abbrev main_v42 : Ref sig .tc := ⟨.hbm, 70, rfl⟩
abbrev main_v43 : Ref sig .tc := ⟨.hbm, 71, rfl⟩
abbrev main_c_6 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_7 : Ref sig .tc := ⟨.hbm, 82, rfl⟩
abbrev main_v53 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_9 : Ref sig .tc := ⟨.hbm, 96, rfl⟩
abbrev main_v65 : Ref sig .tc := ⟨.hbm, 97, rfl⟩
abbrev main_v66 : Ref sig .tc := ⟨.hbm, 98, rfl⟩
abbrev main_c_10 : Ref sig .tc := ⟨.hbm, 99, rfl⟩
abbrev main_v67 : Ref sig .tc := ⟨.hbm, 100, rfl⟩
abbrev main_v68 : Ref sig .tc := ⟨.hbm, 101, rfl⟩
abbrev main_c_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_12 : Ref sig .tc := ⟨.hbm, 107, rfl⟩
abbrev main_v73 : Ref sig .tc := ⟨.hbm, 108, rfl⟩
abbrev main_v74 : Ref sig .tc := ⟨.hbm, 109, rfl⟩
abbrev main_c_13 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_15 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_17 : Ref sig .tc := ⟨.hbm, 131, rfl⟩
abbrev main_v92 : Ref sig .tc := ⟨.hbm, 132, rfl⟩
abbrev main_v93 : Ref sig .tc := ⟨.hbm, 133, rfl⟩
abbrev main_c_18 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]
-- ==== Proof.RunIdeal.Region0.lean ====
/- Call 0 of the program, at any contents `V` its arrays are entered with: the body's run in each of its cases, what each
   grid point leaves in the output blocks and in the scratch, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated. -/
abbrev VO0_5 : View sig .tc .vmem S512x4608 .bf16 := (Memref.whole cc0_stg5_0 : Memref sig .tc .vmem S512x4608 .bf16).view
/-- One staging buffer of output window 6, through which its contents are stated. -/
abbrev VO0_6 : View sig .tc .vmem S8x512 .f32 := (Memref.whole cc0_stg6_0 : Memref sig .tc .vmem S8x512 .f32).view
/-- Each window's current staging memref at point `t`, spelled as the pipeline passes it, and its wholeness. -/
abbrev ms0_0 (t : Fin cfg0.N) : Memref sig .tc .smem S29 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x32 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S2x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x4608 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2304 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4608 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)

set_option maxHeartbeats 1188000 in
noncomputable def kernelRun0_A (c : Dev nD) (i : grid0.Coords) (arg1 : Memref sig .tc .smem S29 .i32) (harg1 : arg1.IsWhole) (arg2 : Memref sig .tc .vmem S8x32 .i32) (harg2 : arg2.IsWhole) (arg3 : Memref sig .tc .smem S2x28 .f32) (harg3 : arg3.IsWhole) (arg4 : Memref sig .tc .vmem S32x4608 .bf16) (harg4 : arg4.IsWhole) (arg5 : Memref sig .tc .vmem S512x2304 .i8) (harg5 : arg5.IsWhole) (arg6 : Memref sig .tc .vmem S512x4608 .bf16) (harg6 : arg6.IsWhole) (arg7 : Memref sig .tc .vmem S8x512 .f32) (harg7 : arg7.IsWhole)
    (x0 : Vec F S29 .i32) (x1 : Vec F S8x32 .i32) (x2 : Vec F S2x28 .f32) (x3 : Vec F S32x4608 .bf16) (x4 : Vec F S512x2304 .i8) :
    Σ' (L5 : List (View.Piece (Elt F) S512x4608 .bf16)), { L6 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_prep_weights i arg1 harg1 arg2 harg2 arg3 harg3 arg4 harg4 arg5 harg5 arg6 harg6 arg7 harg7) K } := by
  refine ⟨?_, ?_, fun E K => ?run⟩
  case run =>
    simp only [cc0_prep_weights_eq_skeleton]; unfold cc0_prep_weights_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- The run's pieces for output 5 tile its block, so they cover it. -/
theorem cover0_A_5 (c : Dev nD) (i : grid0.Coords) (arg1 : Memref sig .tc .smem S29 .i32) (harg1 : arg1.IsWhole) (arg2 : Memref sig .tc .vmem S8x32 .i32) (harg2 : arg2.IsWhole) (arg3 : Memref sig .tc .smem S2x28 .f32) (harg3 : arg3.IsWhole) (arg4 : Memref sig .tc .vmem S32x4608 .bf16) (harg4 : arg4.IsWhole) (arg5 : Memref sig .tc .vmem S512x2304 .i8) (harg5 : arg5.IsWhole) (arg6 : Memref sig .tc .vmem S512x4608 .bf16) (harg6 : arg6.IsWhole) (arg7 : Memref sig .tc .vmem S8x512 .f32) (harg7 : arg7.IsWhole)
    (x0 : Vec F S29 .i32) (x1 : Vec F S8x32 .i32) (x2 : Vec F S2x28 .f32) (x3 : Vec F S32x4608 .bf16) (x4 : Vec F S512x2304 .i8) (y : S512x4608.Idx) :
    ∃ pc ∈ (kernelRun0_A c i arg1 harg1 arg2 harg2 arg3 harg3 arg4 harg4 arg5 harg5 arg6 harg6 arg7 harg7 x0 x1 x2 x3 x4).1, y ∈ pc.1.set :=
  View.cover_of_tiledL (kernelRun0_A c i arg1 harg1 arg2 harg2 arg3 harg3 arg4 harg4 arg5 harg5 arg6 harg6 arg7 harg7 x0 x1 x2 x3 x4).1 S512x128.size (by sl_kernel_rfl) y

/-- What the run leaves in output 5's staging buffer. -/
def out0_A_5 (c : Dev nD) (i : grid0.Coords) (arg1 : Memref sig .tc .smem S29 .i32) (harg1 : arg1.IsWhole) (arg2 : Memref sig .tc .vmem S8x32 .i32) (harg2 : arg2.IsWhole) (arg3 : Memref sig .tc .smem S2x28 .f32) (harg3 : arg3.IsWhole) (arg4 : Memref sig .tc .vmem S32x4608 .bf16) (harg4 : arg4.IsWhole) (arg5 : Memref sig .tc .vmem S512x2304 .i8) (harg5 : arg5.IsWhole) (arg6 : Memref sig .tc .vmem S512x4608 .bf16) (harg6 : arg6.IsWhole) (arg7 : Memref sig .tc .vmem S8x512 .f32) (harg7 : arg7.IsWhole)
    (x0 : Vec F S29 .i32) (x1 : Vec F S8x32 .i32) (x2 : Vec F S2x28 .f32) (x3 : Vec F S32x4608 .bf16) (x4 : Vec F S512x2304 .i8) : Vec F S512x4608 .bf16 :=
  VO0_5.read (Elt F) (VO0_5.writes (Elt F) VO0_5.junk (kernelRun0_A c i arg1 harg1 arg2 harg2 arg3 harg3 arg4 harg4 arg5 harg5 arg6 harg6 arg7 harg7 x0 x1 x2 x3 x4).1)

/-- The run's pieces for output 6 tile its block, so they cover it. -/
theorem cover0_A_6 (c : Dev nD) (i : grid0.Coords) (arg1 : Memref sig .tc .smem S29 .i32) (harg1 : arg1.IsWhole) (arg2 : Memref sig .tc .vmem S8x32 .i32) (harg2 : arg2.IsWhole) (arg3 : Memref sig .tc .smem S2x28 .f32) (harg3 : arg3.IsWhole) (arg4 : Memref sig .tc .vmem S32x4608 .bf16) (harg4 : arg4.IsWhole) (arg5 : Memref sig .tc .vmem S512x2304 .i8) (harg5 : arg5.IsWhole) (arg6 : Memref sig .tc .vmem S512x4608 .bf16) (harg6 : arg6.IsWhole) (arg7 : Memref sig .tc .vmem S8x512 .f32) (harg7 : arg7.IsWhole)
    (x0 : Vec F S29 .i32) (x1 : Vec F S8x32 .i32) (x2 : Vec F S2x28 .f32) (x3 : Vec F S32x4608 .bf16) (x4 : Vec F S512x2304 .i8) (y : S8x512.Idx) :
    ∃ pc ∈ (kernelRun0_A c i arg1 harg1 arg2 harg2 arg3 harg3 arg4 harg4 arg5 harg5 arg6 harg6 arg7 harg7 x0 x1 x2 x3 x4).2.1, y ∈ pc.1.set :=
  View.cover_of_tiledL (kernelRun0_A c i arg1 harg1 arg2 harg2 arg3 harg3 arg4 harg4 arg5 harg5 arg6 harg6 arg7 harg7 x0 x1 x2 x3 x4).2.1 S8x512.size (by sl_kernel_rfl) y

/-- What the run leaves in output 6's staging buffer. -/
def out0_A_6 (c : Dev nD) (i : grid0.Coords) (arg1 : Memref sig .tc .smem S29 .i32) (harg1 : arg1.IsWhole) (arg2 : Memref sig .tc .vmem S8x32 .i32) (harg2 : arg2.IsWhole) (arg3 : Memref sig .tc .smem S2x28 .f32) (harg3 : arg3.IsWhole) (arg4 : Memref sig .tc .vmem S32x4608 .bf16) (harg4 : arg4.IsWhole) (arg5 : Memref sig .tc .vmem S512x2304 .i8) (harg5 : arg5.IsWhole) (arg6 : Memref sig .tc .vmem S512x4608 .bf16) (harg6 : arg6.IsWhole) (arg7 : Memref sig .tc .vmem S8x512 .f32) (harg7 : arg7.IsWhole)
    (x0 : Vec F S29 .i32) (x1 : Vec F S8x32 .i32) (x2 : Vec F S2x28 .f32) (x3 : Vec F S32x4608 .bf16) (x4 : Vec F S512x2304 .i8) : Vec F S8x512 .f32 :=
  VO0_6.read (Elt F) (VO0_6.writes (Elt F) VO0_6.junk (kernelRun0_A c i arg1 harg1 arg2 harg2 arg3 harg3 arg4 harg4 arg5 harg5 arg6 harg6 arg7 harg7 x0 x1 x2 x3 x4).2.1)

/-! ## What the outputs hold after each point -/

/-- What the outputs' staging buffers hold after the body at point `t`. -/
def outsAt0 (c : Dev nD) (t : Fin cfg0.N) : Vec F S512x4608 .bf16 × Vec F S8x512 .f32 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk0 V c 0 t) (iblk0 V c 1 t) (iblk0 V c 2 t) (iblk0 V c 3 t) (iblk0 V c 4 t))

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2
  Φ _ := Pipeline.ΦA spec0 c
  q _ := fullShare
  owed _ := 0

/-- The proof data's arrays are the region-entry contents, by projecting the definition. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold outsAt0
  unfold out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ (iblk0 V c 0 t) (iblk0 V c 1 t) (iblk0 V c 2 t) (iblk0 V c 3 t) (iblk0 V c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.RunIdeal.Region1.lean ====
/- Call 1 of the program, at any contents `V` its arrays are entered with: the body's run in each of its cases, what each
   grid point leaves in the output blocks and in the scratch, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0, from the grid coordinates. -/
abbrev cond1_0 (i : grid1.Coords) : Prop := (Scalar.cmpi .ne (Scalar.extui (Scalar.cmpi .eq (BitVec.ofNat 32 (i 1).val) 0#32)) 0#32) = 1#1
/-- It holds at the first point only — by arithmetic of the point. -/
theorem hcond1_0 : ∀ t : Fin cfg1.N, cond1_0 (grid1.coords t) ↔ t.val % 24 = 0 :=
  (fun t => by
    have ht : t.val < 24 := Nat.lt_of_lt_of_eq t.isLt N_1
    have e0 : (grid1.coords t 0).val = t.val / 24 % 1 := Pipeline.Grid.coords_val t 0 (by decide) rfl
    have e1 : (grid1.coords t 1).val = t.val / 1 % 24 := Pipeline.Grid.coords_val t 1 (by decide) rfl
    simp only [cond1_0, e0, e1]
    word_cmp
   : ∀ t : Fin grid1.N, cond1_0 (grid1.coords t) ↔ t.val % 24 = 0)

/-- The condition of the body's `scf.if` 1, from the grid coordinates. -/
abbrev cond1_1 (i : grid1.Coords) : Prop := k1_cond2 i = 1#1
/-- It holds at the last point only — by arithmetic of the point. -/
theorem hcond1_1 : ∀ t : Fin cfg1.N, cond1_1 (grid1.coords t) ↔ t.val % 24 = 23 :=
  (fun t => by
    have ht : t.val < 24 := Nat.lt_of_lt_of_eq t.isLt N_1
    have e0 : (grid1.coords t 0).val = t.val / 24 % 1 := Pipeline.Grid.coords_val t 0 (by decide) rfl
    have e1 : (grid1.coords t 1).val = t.val / 1 % 24 := Pipeline.Grid.coords_val t 1 (by decide) rfl
    simp only [cond1_1, k1_cond2, e0, e1]
    word_cmp
   : ∀ t : Fin grid1.N, cond1_1 (grid1.coords t) ↔ t.val % 24 = 23)

/-! ## Where the windows are idle (the printed configuration's table `Cfg.idle`) -/

/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- Window 4 is never idle. -/
theorem liveAt1_4 : ∀ t : Fin cfg1.N, cfg1.idle 4 (grid1.coords t) = false := fun _ => rfl
/-- At the points of case A the printed configuration calls output 3 idle. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration calls output 3 idle. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration calls output 3 live. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated. -/
abbrev VO1_3 : View sig .tc .vmem S768x4608 .bf16 := (Memref.whole cc1_stg3_0 : Memref sig .tc .vmem S768x4608 .bf16).view
/-- One staging buffer of output window 4, through which its contents are stated. -/
abbrev VO1_4 : View sig .tc .vmem S768x512 .i8 := (Memref.whole cc1_stg4_0 : Memref sig .tc .vmem S768x512 .i8).view
/-- Each window's current staging memref at point `t`, spelled as the pipeline passes it, and its wholeness. -/
abbrev ms1_0 (t : Fin cfg1.N) : Memref sig .tc .vmem S384x512 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4608 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x4608 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S768x512 .i8 := win1_4.stage (cfg1.slots t 4)
abbrev hs1_4 (t : Fin cfg1.N) : (ms1_4 t).IsWhole := hstage1_4 ((cfg1.slots t 4).cast nbuf1_4)
/-- The scratch operands. -/
abbrev scM1_0 : Memref sig .tc .vmem S768x4608 .f32 := Memref.whole cc1_scratch0
/-- The scratch `arg7` the kernel carries between points, as a view. -/
abbrev VS1_0 : View sig .tc .vmem S768x4608 .f32 := scM1_0.view

/-- `Gen.scopedRest1_split` as ONE chain. -/
theorem scopedRest1_flat (c : Dev nD) :
    (Pipeline.scopedRest spec1 c : sProp 𝕄)
      = iprop((∃ f : Buf (Elt F) ((c : Thread nD τ).loc cc1_scratch0), ((c : Thread nD τ).loc cc1_scratch0) ↦{fullShare} f) ∗ Pipeline.scopedRestBut spec1 c [cc1_scratch0]) := by
  rw [scopedRest1_split]

theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [scopedRest1_flat]; simp only [scM1_0, owns_whole]; try rfl

set_option maxHeartbeats 1000000 in
noncomputable def kernelRun1_A (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_0 i arg2 harg2 arg3 harg3 arg4 harg4 arg5 harg5 arg6 harg6 arg7 harg7) K } := by
  refine ⟨[], ?_, ?_, fun xi3 E K => ?run⟩
  case run =>
    simp only [cc1_matmul_0_eq_skeleton]; unfold cc1_matmul_0_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def out1_A_3 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) : Vec F S768x4608 .bf16 :=
  VO1_3.read (Elt F) (VO1_3.writes (Elt F) VO1_3.junk (kernelRun1_A c i arg2 harg2 arg3 harg3 arg4 harg4 arg5 harg5 arg6 harg6 arg7 harg7 hc0 hc1 x0 x1 x2).1)

/-- Case A's pieces for output 4 tile its block, so they cover it. -/
theorem cover1_A_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) (y : S768x512.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S768x512.size (by sl_kernel_rfl) y

/-- What case A leaves in output 4's staging buffer. -/
def out1_A_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) : Vec F S768x512 .i8 :=
  VO1_4.read (Elt F) (VO1_4.writes (Elt F) VO1_4.junk (kernelRun1_A c i arg2 harg2 arg3 harg3 arg4 harg4 arg5 harg5 arg6 harg6 arg7 harg7 hc0 hc1 x0 x1 x2).2.1)

/-- Case A's pieces for scratch `arg7`, which the kernel carries between points, cover it. -/
theorem scover1_A_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) (y : S768x4608.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S768x4608.size (by sl_kernel_rfl) y

/-- What case A leaves in scratch `arg7`. -/
def sout1_A_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : cond1_0 i) (hc1 : ¬cond1_1 i)
    (x0 : Vec F S384x512 .i32) (x1 : Vec F S512x4608 .bf16) (x2 : Vec F S8x512 .f32) : Vec F S768x4608 .f32 :=
  VS1_0.read (Elt F) (VS1_0.writes (Elt F) VS1_0.junk (kernelRun1_A c i arg2 harg2 arg3 harg3 arg4 harg4 arg5 harg5 arg6 harg6 arg7 harg7 hc0 hc1 x0 x1 x2).2.2.1)

set_option maxHeartbeats 1000000 in
noncomputable def kernelRun1_B (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_0 i arg2 harg2 arg3 harg3 arg4 harg4 arg5 harg5 arg6 harg6 arg7 harg7) K } := by
  refine ⟨[], ?_, ?_, fun xi3 E K => ?run⟩
  case run =>
    simp only [cc1_matmul_0_eq_skeleton]; unfold cc1_matmul_0_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

def out1_B_3 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) : Vec F S768x4608 .bf16 :=
  VO1_3.read (Elt F) (VO1_3.writes (Elt F) VO1_3.junk (kernelRun1_B c i arg2 harg2 arg3 harg3 arg4 harg4 arg5 harg5 arg6 harg6 arg7 harg7 hc0 hc1 x0 x1 x2 xs0).1)

/-- Case B's pieces for output 4 tile its block, so they cover it. -/
theorem cover1_B_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) (y : S768x512.Idx) :
    ∃ pc ∈ (kernelRun1_B c i arg2 harg2 arg3 harg3 arg4 harg4 arg5 harg5 arg6 harg6 arg7 harg7 hc0 hc1 x0 x1 x2 xs0).2.1, y ∈ pc.1.set :=
  View.cover_of_tiledL (kernelRun1_B c i arg2 harg2 arg3 harg3 arg4 harg4 arg5 harg5 arg6 harg6 arg7 harg7 hc0 hc1 x0 x1 x2 xs0).2.1 S768x512.size (by sl_kernel_rfl) y

/-- What case B leaves in output 4's staging buffer. -/
def out1_B_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) : Vec F S768x512 .i8 :=
  VO1_4.read (Elt F) (VO1_4.writes (Elt F) VO1_4.junk (kernelRun1_B c i arg2 harg2 arg3 harg3 arg4 harg4 arg5 harg5 arg6 harg6 arg7 harg7 hc0 hc1 x0 x1 x2 xs0).2.1)

/-- Case B's pieces for scratch `arg7`, which the kernel carries between points, cover it. -/
theorem scover1_B_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) (y : S768x4608.Idx) :
    ∃ pc ∈ (kernelRun1_B c i arg2 harg2 arg3 harg3 arg4 harg4 arg5 harg5 arg6 harg6 arg7 harg7 hc0 hc1 x0 x1 x2 xs0).2.2.1, y ∈ pc.1.set :=
  View.cover_of_tiledL (kernelRun1_B c i arg2 harg2 arg3 harg3 arg4 harg4 arg5 harg5 arg6 harg6 arg7 harg7 hc0 hc1 x0 x1 x2 xs0).2.2.1 S768x4608.size (by sl_kernel_rfl) y

/-- What case B leaves in scratch `arg7`. -/
def sout1_B_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : ¬cond1_1 i)
    (x0 : Vec F S384x512 .i32) (x1 : Vec F S512x4608 .bf16) (x2 : Vec F S8x512 .f32) (xs0 : Vec F S768x4608 .f32) : Vec F S768x4608 .f32 :=
  VS1_0.read (Elt F) (VS1_0.writes (Elt F) VS1_0.junk (kernelRun1_B c i arg2 harg2 arg3 harg3 arg4 harg4 arg5 harg5 arg6 harg6 arg7 harg7 hc0 hc1 x0 x1 x2 xs0).2.2.1)

set_option maxHeartbeats 1000000 in
noncomputable def kernelRun1_C (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_0 i arg2 harg2 arg3 harg3 arg4 harg4 arg5 harg5 arg6 harg6 arg7 harg7) K } := by
  refine ⟨?_, ?_, ?_, fun E K => ?run⟩
  case run =>
    simp only [cc1_matmul_0_eq_skeleton]; unfold cc1_matmul_0_skel
    simp only [k1_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- Case C's pieces for output 3 tile its block, so they cover it. -/
theorem cover1_C_3 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) (y : S768x4608.Idx) :
    ∃ pc ∈ (kernelRun1_C c i arg2 harg2 arg3 harg3 arg4 harg4 arg5 harg5 arg6 harg6 arg7 harg7 hc0 hc1 x0 x1 x2 xs0).1, y ∈ pc.1.set :=
  View.cover_of_tiledL (kernelRun1_C c i arg2 harg2 arg3 harg3 arg4 harg4 arg5 harg5 arg6 harg6 arg7 harg7 hc0 hc1 x0 x1 x2 xs0).1 S768x4608.size (by sl_kernel_rfl) y

/-- What case C leaves in output 3's staging buffer. -/
def out1_C_3 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) : Vec F S768x4608 .bf16 :=
  VO1_3.read (Elt F) (VO1_3.writes (Elt F) VO1_3.junk (kernelRun1_C c i arg2 harg2 arg3 harg3 arg4 harg4 arg5 harg5 arg6 harg6 arg7 harg7 hc0 hc1 x0 x1 x2 xs0).1)

/-- Case C's pieces for output 4 tile its block, so they cover it. -/
theorem cover1_C_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) (y : S768x512.Idx) :
    ∃ pc ∈ (kernelRun1_C c i arg2 harg2 arg3 harg3 arg4 harg4 arg5 harg5 arg6 harg6 arg7 harg7 hc0 hc1 x0 x1 x2 xs0).2.1, y ∈ pc.1.set :=
  View.cover_of_tiledL (kernelRun1_C c i arg2 harg2 arg3 harg3 arg4 harg4 arg5 harg5 arg6 harg6 arg7 harg7 hc0 hc1 x0 x1 x2 xs0).2.1 S768x512.size (by sl_kernel_rfl) y

/-- What case C leaves in output 4's staging buffer. -/
def out1_C_4 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) : Vec F S768x512 .i8 :=
  VO1_4.read (Elt F) (VO1_4.writes (Elt F) VO1_4.junk (kernelRun1_C c i arg2 harg2 arg3 harg3 arg4 harg4 arg5 harg5 arg6 harg6 arg7 harg7 hc0 hc1 x0 x1 x2 xs0).2.1)

/-- Case C's pieces for scratch `arg7`, which the kernel carries between points, cover it. -/
theorem scover1_C_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) (y : S768x4608.Idx) :
    ∃ pc ∈ (kernelRun1_C c i arg2 harg2 arg3 harg3 arg4 harg4 arg5 harg5 arg6 harg6 arg7 harg7 hc0 hc1 x0 x1 x2 xs0).2.2.1, y ∈ pc.1.set :=
  View.cover_of_tiledL (kernelRun1_C c i arg2 harg2 arg3 harg3 arg4 harg4 arg5 harg5 arg6 harg6 arg7 harg7 hc0 hc1 x0 x1 x2 xs0).2.2.1 S768x4608.size (by sl_kernel_rfl) y

/-- What case C leaves in scratch `arg7`. -/
def sout1_C_0 (c : Dev nD) (i : grid1.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg5 : Memref sig .tc .vmem S768x4608 .bf16) (harg5 : arg5.IsWhole) (arg6 : Memref sig .tc .vmem S768x512 .i8) (harg6 : arg6.IsWhole) (arg7 : Memref sig .tc .vmem S768x4608 .f32) (harg7 : arg7.IsWhole) (hc0 : ¬cond1_0 i) (hc1 : cond1_1 i)
    (x0 : Vec F S384x512 .i32) (x1 : Vec F S512x4608 .bf16) (x2 : Vec F S8x512 .f32) (xs0 : Vec F S768x4608 .f32) : Vec F S768x4608 .f32 :=
  VS1_0.read (Elt F) (VS1_0.writes (Elt F) VS1_0.junk (kernelRun1_C c i arg2 harg2 arg3 harg3 arg4 harg4 arg5 harg5 arg6 harg6 arg7 harg7 hc0 hc1 x0 x1 x2 xs0).2.2.1)

/-! ## What the outputs hold after each point -/

def outsAt1 (c : Dev nD) : (n : ℕ) → n < cfg1.N → Vec F S768x4608 .bf16 × Vec F S768x512 .i8 × Vec F S768x4608 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 24 = 0 then
      if h1 : (n + 1) % 24 = 23 then
        False.elim (by have hN : n + 1 < 24 := lt_of_lt_of_eq hn (show cfg1.N = 24 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 24 = 23 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.2)

/-- `outsAt1` at a point of case A: that case's contents. -/
theorem outsAt1_A (c : Dev nD) (t : Fin cfg1.N) (h0 : t.val % 24 = 0) (h1 : ¬t.val % 24 = 23) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 24 = 0) (h1 : ¬t.val % 24 = 23) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 24 = 0) (h1 : t.val % 24 = 23) :
    outsAt1 V c t.val t.isLt = (out1_C_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Pipeline.scopedRestBut spec1 c [cc1_scratch0]) ∗ (∃ r, prngReg c r))

theorem PhiS_zero1 (c : Dev nD) (n : ℕ) (h : n ≤ cfg1.N) (hz : n = 0) : PhiS1 V c n h = Pipeline.ΦA spec1 c := by
  subst hz; rfl

/-- After point `n`. -/
theorem PhiS_succ1 (c : Dev nD) (n : ℕ) (hn : n < cfg1.N) :
    PhiS1 V c (n + 1) hn = iprop(iprop(owns (c : Thread nD τ) scM1_0 fullShare ((outsAt1 V c n hn).2.2) ∗ Pipeline.scopedRestBut spec1 c [cc1_scratch0]) ∗ (∃ r, prngReg c r)) := rfl

/-- Before a point that is not the first. -/
theorem PhiS_pos1 (c : Dev nD) (n : ℕ) (h : n ≤ cfg1.N) (hz : n ≠ 0) :
    PhiS1 V c n h = iprop(iprop(owns (c : Thread nD τ) scM1_0 fullShare ((outsAt1 V c (n - 1) (by omega)).2.2) ∗ Pipeline.scopedRestBut spec1 c [cc1_scratch0]) ∗ (∃ r, prngReg c r)) := by
  cases n with
  | zero => exact absurd rfl hz
  | succ n => rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
  Φ t := PhiS1 V c t.val (Nat.le_of_lt_succ t.isLt)
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- The invariant at a point's start, restated at `t.val`. -/
theorem PhiS_castSucc1 (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS_succ1]
  have hN : t.val < 24 := lt_of_lt_of_eq t.isLt (show cfg1.N = 24 from N_1)
  by_cases h0 : t.val % 24 = 0
  · by_cases h1 : t.val % 24 = 23
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [show (dat1 V c).leavesExact 4 t = owns (c : Thread nD τ) (ms1_4 t) fullShare ((dat1 V c).after 4 t) from by
      unfold Dat.leavesExact; rw [liveAt1_4 t], after1_4]
      by_cases hz : t.val = 0
      · rw [PhiS_castSucc1 V c t, PhiS_zero1 V c _ _ hz, PhiA1_eq]
        rw [outsAt1_A V c t h0 h1]
        unfold out1_A_4 sout1_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover1_A_0 c _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover1_A_4 c _ _ _ _ _ _ _ _ _ _ _ _ _ _ _ _ _ _)
      · exfalso; have hN : t.val < 24 := lt_of_lt_of_eq t.isLt (show cfg1.N = 24 from N_1); omega
  · by_cases h1 : t.val % 24 = 23
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      rw [show (dat1 V c).leavesExact 4 t = owns (c : Thread nD τ) (ms1_4 t) fullShare ((dat1 V c).after 4 t) from by
      unfold Dat.leavesExact; rw [liveAt1_4 t], after1_4]
      by_cases hz : t.val = 0
      · exfalso; have hN : t.val < 24 := lt_of_lt_of_eq t.isLt (show cfg1.N = 24 from N_1); omega
      · rw [PhiS_castSucc1 V c t, PhiS_pos1 V c _ _ hz]
        rw [outsAt1_C V c t h0 h1]
        unfold out1_C_3 out1_C_4 sout1_C_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover1_C_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover1_C_3 c _ _ _ _ _ _ _ _ _ _ _ _ _ _ _ _ _ _ _)
        unfold owns; iexists _; isplitr
        swap; · iexact H4
        ipureintro; exact View.read_writes_of_cover _ _ _ _ _ (cover1_C_4 c _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [show (dat1 V c).leavesExact 4 t = owns (c : Thread nD τ) (ms1_4 t) fullShare ((dat1 V c).after 4 t) from by
      unfold Dat.leavesExact; rw [liveAt1_4 t], after1_4]
      by_cases hz : t.val = 0
      · exfalso; have hN : t.val < 24 := lt_of_lt_of_eq t.isLt (show cfg1.N = 24 from N_1); omega
      · rw [PhiS_castSucc1 V c t, PhiS_pos1 V c _ _ hz]
        rw [outsAt1_B V c t h0 h1]
        unfold out1_B_4 sout1_B_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover1_B_4 c _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS_zero1 V c 0 _ rfl]
  try exact Idealize.SL.BI.Entails.refl _

/-- After any point but the first the invariant gives `ΦA` back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS_pos1 V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 24 := N_1; omega)

end Regions

end Cert.KernelIdeal.Gen

end
-- ==== Proof.RunIdeal.Region2.lean ====
/- Call 2 of the program, at any contents `V` its arrays are entered with: the body's run in each of its cases, what each
   grid point leaves in the output blocks and in the scratch, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0, from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 — by arithmetic of the point. -/
theorem hcond2_0 : ∀ t : Fin cfg2.N, cond2_0 (grid2.coords t) ↔ t.val % 24 = 0 :=
  (fun t => by
    have ht : t.val < 72 := Nat.lt_of_lt_of_eq t.isLt N_2
    have e0 : (grid2.coords t 0).val = t.val / 24 % 3 := Pipeline.Grid.coords_val t 0 (by decide) rfl
    have e1 : (grid2.coords t 1).val = t.val / 1 % 24 := Pipeline.Grid.coords_val t 1 (by decide) rfl
    simp only [cond2_0, e0, e1]
    word_cmp
   : ∀ t : Fin grid2.N, cond2_0 (grid2.coords t) ↔ t.val % 24 = 0)

/-- The condition of the body's `scf.if` 1, from the grid coordinates. -/
abbrev cond2_1 (i : grid2.Coords) : Prop := k2_cond2 i = 1#1
/-- It holds at the points ≡ 23 — by arithmetic of the point. -/
theorem hcond2_1 : ∀ t : Fin cfg2.N, cond2_1 (grid2.coords t) ↔ t.val % 24 = 23 :=
  (fun t => by
    have ht : t.val < 72 := Nat.lt_of_lt_of_eq t.isLt N_2
    have e0 : (grid2.coords t 0).val = t.val / 24 % 3 := Pipeline.Grid.coords_val t 0 (by decide) rfl
    have e1 : (grid2.coords t 1).val = t.val / 1 % 24 := Pipeline.Grid.coords_val t 1 (by decide) rfl
    simp only [cond2_1, k2_cond2, e0, e1]
    word_cmp
   : ∀ t : Fin grid2.N, cond2_1 (grid2.coords t) ↔ t.val % 24 = 23)

/-! ## Where the windows are idle (the printed configuration's table `Cfg.idle`) -/

/-- Window 0 is never idle. -/
theorem liveAt2_0 : ∀ t : Fin cfg2.N, cfg2.idle 0 (grid2.coords t) = false := fun _ => rfl
/-- Window 1 is never idle. -/
theorem liveAt2_1 : ∀ t : Fin cfg2.N, cfg2.idle 1 (grid2.coords t) = false := fun _ => rfl
/-- Window 2 is never idle. -/
theorem liveAt2_2 : ∀ t : Fin cfg2.N, cfg2.idle 2 (grid2.coords t) = false := fun _ => rfl
/-- Window 4 is never idle. -/
theorem liveAt2_4 : ∀ t : Fin cfg2.N, cfg2.idle 4 (grid2.coords t) = false := fun _ => rfl
/-- At the points of case A the printed configuration calls output 3 idle. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B the printed configuration calls output 3 idle. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C the printed configuration calls output 3 live. -/
theorem liveAt2_3_C : ∀ t : Fin cfg2.N, ¬cond2_0 (grid2.coords t) → cond2_1 (grid2.coords t) → cfg2.idle 3 (grid2.coords t) = false := by decide +kernel

/-! ## The kernel body on any staging memrefs: a subtype the run finds -/

/-- One staging buffer of output window 3, through which its contents are stated. -/
abbrev VO2_3 : View sig .tc .vmem S768x4608 .bf16 := (Memref.whole cc2_stg3_0 : Memref sig .tc .vmem S768x4608 .bf16).view
/-- One staging buffer of output window 4, through which its contents are stated. -/
abbrev VO2_4 : View sig .tc .vmem S768x512 .i8 := (Memref.whole cc2_stg4_0 : Memref sig .tc .vmem S768x512 .i8).view
/-- Each window's current staging memref at point `t`, spelled as the pipeline passes it, and its wholeness. -/
abbrev ms2_0 (t : Fin cfg2.N) : Memref sig .tc .vmem S384x512 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4608 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S8x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S768x4608 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S768x512 .i8 := win2_4.stage (cfg2.slots t 4)
abbrev hs2_4 (t : Fin cfg2.N) : (ms2_4 t).IsWhole := hstage2_4 ((cfg2.slots t 4).cast nbuf2_4)
/-- The scratch operands. -/
abbrev scM2_0 : Memref sig .tc .vmem S768x4608 .f32 := Memref.whole cc2_scratch0
/-- The scratch `arg9` the kernel carries between points, as a view. -/
abbrev VS2_0 : View sig .tc .vmem S768x4608 .f32 := scM2_0.view

/-- `Gen.scopedRest2_split` as ONE chain. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1000000 in
noncomputable def kernelRun2_A (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xi3 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg7 fullShare xi3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc2_matmul_1 i arg2 harg2 arg3 harg3 arg4 harg4 (Memref.whole main_v15_0) (Memref.isWhole_whole _) (Memref.whole main_v15_1) (Memref.isWhole_whole _) arg7 harg7 arg8 harg8 arg9 harg9) K } := by
  refine ⟨[], ?_, ?_, fun xi3 E K => ?run⟩
  case run =>
    simp only [cc2_matmul_1_eq_skeleton]; unfold cc2_matmul_1_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg7.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg7.read_unread _
      iexact H3
    isplitl [H4]; · iexists _; iexact H4
    iexists _; iexact HS0

def out2_A_3 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) : Vec F S768x4608 .bf16 :=
  VO2_3.read (Elt F) (VO2_3.writes (Elt F) VO2_3.junk (kernelRun2_A c i arg2 harg2 arg3 harg3 arg4 harg4 arg7 harg7 arg8 harg8 arg9 harg9 hc0 hc1 x0 x1 x2).1)

/-- Case A's pieces for output 4 tile its block, so they cover it. -/
theorem cover2_A_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) (y : S768x512.Idx) :
    ∃ pc ∈ (kernelRun2_A c i arg2 harg2 arg3 harg3 arg4 harg4 arg7 harg7 arg8 harg8 arg9 harg9 hc0 hc1 x0 x1 x2).2.1, y ∈ pc.1.set :=
  View.cover_of_tiledL (kernelRun2_A c i arg2 harg2 arg3 harg3 arg4 harg4 arg7 harg7 arg8 harg8 arg9 harg9 hc0 hc1 x0 x1 x2).2.1 S768x512.size (by sl_kernel_rfl) y

/-- What case A leaves in output 4's staging buffer. -/
def out2_A_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) : Vec F S768x512 .i8 :=
  VO2_4.read (Elt F) (VO2_4.writes (Elt F) VO2_4.junk (kernelRun2_A c i arg2 harg2 arg3 harg3 arg4 harg4 arg7 harg7 arg8 harg8 arg9 harg9 hc0 hc1 x0 x1 x2).2.1)

/-- Case A's pieces for scratch `arg9`, which the kernel carries between points, cover it. -/
theorem scover2_A_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) (y : S768x4608.Idx) :
    ∃ pc ∈ (kernelRun2_A c i arg2 harg2 arg3 harg3 arg4 harg4 arg7 harg7 arg8 harg8 arg9 harg9 hc0 hc1 x0 x1 x2).2.2.1, y ∈ pc.1.set :=
  View.cover_of_tiledL (kernelRun2_A c i arg2 harg2 arg3 harg3 arg4 harg4 arg7 harg7 arg8 harg8 arg9 harg9 hc0 hc1 x0 x1 x2).2.2.1 S768x4608.size (by sl_kernel_rfl) y

/-- What case A leaves in scratch `arg9`. -/
def sout2_A_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond2_0 i) (hc1 : ¬cond2_1 i)
    (x0 : Vec F S384x512 .i32) (x1 : Vec F S512x4608 .bf16) (x2 : Vec F S8x512 .f32) : Vec F S768x4608 .f32 :=
  VS2_0.read (Elt F) (VS2_0.writes (Elt F) VS2_0.junk (kernelRun2_A c i arg2 harg2 arg3 harg3 arg4 harg4 arg7 harg7 arg8 harg8 arg9 harg9 hc0 hc1 x0 x1 x2).2.2.1)

set_option maxHeartbeats 1000000 in
noncomputable def kernelRun2_B (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xi3 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg7 fullShare xi3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc2_matmul_1 i arg2 harg2 arg3 harg3 arg4 harg4 (Memref.whole main_v15_0) (Memref.isWhole_whole _) (Memref.whole main_v15_1) (Memref.isWhole_whole _) arg7 harg7 arg8 harg8 arg9 harg9) K } := by
  refine ⟨[], ?_, ?_, fun xi3 E K => ?run⟩
  case run =>
    simp only [cc2_matmul_1_eq_skeleton]; unfold cc2_matmul_1_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hf3; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg7.read_unread _
      iexact H3
    isplitl [H4]; · iexists _; iexact H4
    iexists _; iexact HS0

def out2_B_3 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) : Vec F S768x4608 .bf16 :=
  VO2_3.read (Elt F) (VO2_3.writes (Elt F) VO2_3.junk (kernelRun2_B c i arg2 harg2 arg3 harg3 arg4 harg4 arg7 harg7 arg8 harg8 arg9 harg9 hc0 hc1 x0 x1 x2 xs0).1)

/-- Case B's pieces for output 4 tile its block, so they cover it. -/
theorem cover2_B_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) (y : S768x512.Idx) :
    ∃ pc ∈ (kernelRun2_B c i arg2 harg2 arg3 harg3 arg4 harg4 arg7 harg7 arg8 harg8 arg9 harg9 hc0 hc1 x0 x1 x2 xs0).2.1, y ∈ pc.1.set :=
  View.cover_of_tiledL (kernelRun2_B c i arg2 harg2 arg3 harg3 arg4 harg4 arg7 harg7 arg8 harg8 arg9 harg9 hc0 hc1 x0 x1 x2 xs0).2.1 S768x512.size (by sl_kernel_rfl) y

/-- What case B leaves in output 4's staging buffer. -/
def out2_B_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) : Vec F S768x512 .i8 :=
  VO2_4.read (Elt F) (VO2_4.writes (Elt F) VO2_4.junk (kernelRun2_B c i arg2 harg2 arg3 harg3 arg4 harg4 arg7 harg7 arg8 harg8 arg9 harg9 hc0 hc1 x0 x1 x2 xs0).2.1)

/-- Case B's pieces for scratch `arg9`, which the kernel carries between points, cover it. -/
theorem scover2_B_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) (y : S768x4608.Idx) :
    ∃ pc ∈ (kernelRun2_B c i arg2 harg2 arg3 harg3 arg4 harg4 arg7 harg7 arg8 harg8 arg9 harg9 hc0 hc1 x0 x1 x2 xs0).2.2.1, y ∈ pc.1.set :=
  View.cover_of_tiledL (kernelRun2_B c i arg2 harg2 arg3 harg3 arg4 harg4 arg7 harg7 arg8 harg8 arg9 harg9 hc0 hc1 x0 x1 x2 xs0).2.2.1 S768x4608.size (by sl_kernel_rfl) y

/-- What case B leaves in scratch `arg9`. -/
def sout2_B_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : ¬cond2_1 i)
    (x0 : Vec F S384x512 .i32) (x1 : Vec F S512x4608 .bf16) (x2 : Vec F S8x512 .f32) (xs0 : Vec F S768x4608 .f32) : Vec F S768x4608 .f32 :=
  VS2_0.read (Elt F) (VS2_0.writes (Elt F) VS2_0.junk (kernelRun2_B c i arg2 harg2 arg3 harg3 arg4 harg4 arg7 harg7 arg8 harg8 arg9 harg9 hc0 hc1 x0 x1 x2 xs0).2.2.1)

set_option maxHeartbeats 1000000 in
noncomputable def kernelRun2_C (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc2_matmul_1 i arg2 harg2 arg3 harg3 arg4 harg4 (Memref.whole main_v15_0) (Memref.isWhole_whole _) (Memref.whole main_v15_1) (Memref.isWhole_whole _) arg7 harg7 arg8 harg8 arg9 harg9) K } := by
  refine ⟨?_, ?_, ?_, fun E K => ?run⟩
  case run =>
    simp only [cc2_matmul_1_eq_skeleton]; unfold cc2_matmul_1_skel
    simp only [k2_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- Case C's pieces for output 3 tile its block, so they cover it. -/
theorem cover2_C_3 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) (y : S768x4608.Idx) :
    ∃ pc ∈ (kernelRun2_C c i arg2 harg2 arg3 harg3 arg4 harg4 arg7 harg7 arg8 harg8 arg9 harg9 hc0 hc1 x0 x1 x2 xs0).1, y ∈ pc.1.set :=
  View.cover_of_tiledL (kernelRun2_C c i arg2 harg2 arg3 harg3 arg4 harg4 arg7 harg7 arg8 harg8 arg9 harg9 hc0 hc1 x0 x1 x2 xs0).1 S768x4608.size (by sl_kernel_rfl) y

/-- What case C leaves in output 3's staging buffer. -/
def out2_C_3 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) : Vec F S768x4608 .bf16 :=
  VO2_3.read (Elt F) (VO2_3.writes (Elt F) VO2_3.junk (kernelRun2_C c i arg2 harg2 arg3 harg3 arg4 harg4 arg7 harg7 arg8 harg8 arg9 harg9 hc0 hc1 x0 x1 x2 xs0).1)

/-- Case C's pieces for output 4 tile its block, so they cover it. -/
theorem cover2_C_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) (y : S768x512.Idx) :
    ∃ pc ∈ (kernelRun2_C c i arg2 harg2 arg3 harg3 arg4 harg4 arg7 harg7 arg8 harg8 arg9 harg9 hc0 hc1 x0 x1 x2 xs0).2.1, y ∈ pc.1.set :=
  View.cover_of_tiledL (kernelRun2_C c i arg2 harg2 arg3 harg3 arg4 harg4 arg7 harg7 arg8 harg8 arg9 harg9 hc0 hc1 x0 x1 x2 xs0).2.1 S768x512.size (by sl_kernel_rfl) y

/-- What case C leaves in output 4's staging buffer. -/
def out2_C_4 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) : Vec F S768x512 .i8 :=
  VO2_4.read (Elt F) (VO2_4.writes (Elt F) VO2_4.junk (kernelRun2_C c i arg2 harg2 arg3 harg3 arg4 harg4 arg7 harg7 arg8 harg8 arg9 harg9 hc0 hc1 x0 x1 x2 xs0).2.1)

/-- Case C's pieces for scratch `arg9`, which the kernel carries between points, cover it. -/
theorem scover2_C_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) (y : S768x4608.Idx) :
    ∃ pc ∈ (kernelRun2_C c i arg2 harg2 arg3 harg3 arg4 harg4 arg7 harg7 arg8 harg8 arg9 harg9 hc0 hc1 x0 x1 x2 xs0).2.2.1, y ∈ pc.1.set :=
  View.cover_of_tiledL (kernelRun2_C c i arg2 harg2 arg3 harg3 arg4 harg4 arg7 harg7 arg8 harg8 arg9 harg9 hc0 hc1 x0 x1 x2 xs0).2.2.1 S768x4608.size (by sl_kernel_rfl) y

/-- What case C leaves in scratch `arg9`. -/
def sout2_C_0 (c : Dev nD) (i : grid2.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond2_0 i) (hc1 : cond2_1 i)
    (x0 : Vec F S384x512 .i32) (x1 : Vec F S512x4608 .bf16) (x2 : Vec F S8x512 .f32) (xs0 : Vec F S768x4608 .f32) : Vec F S768x4608 .f32 :=
  VS2_0.read (Elt F) (VS2_0.writes (Elt F) VS2_0.junk (kernelRun2_C c i arg2 harg2 arg3 harg3 arg4 harg4 arg7 harg7 arg8 harg8 arg9 harg9 hc0 hc1 x0 x1 x2 xs0).2.2.1)

/-! ## What the outputs hold after each point -/

def outsAt2 (c : Dev nD) : (n : ℕ) → n < cfg2.N → Vec F S768x4608 .bf16 × Vec F S768x512 .i8 × Vec F S768x4608 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 24 = 0 then
      if h1 : (n + 1) % 24 = 23 then
        False.elim (by have hN : n + 1 < 72 := lt_of_lt_of_eq hn (show cfg2.N = 72 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 24 = 23 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2)

/-- `outsAt2` at a point of case A: that case's contents. -/
theorem outsAt2_A (c : Dev nD) (t : Fin cfg2.N) (h0 : t.val % 24 = 0) (h1 : ¬t.val % 24 = 23) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t), out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 24 = 0) (h1 : ¬t.val % 24 = 23) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2, out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 24 = 0) (h1 : t.val % 24 = 23) :
    outsAt2 V c t.val t.isLt = (out2_C_3 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2) ∗ Pipeline.scopedRestBut spec2 c [cc2_scratch0]) ∗ (∃ r, prngReg c r))

theorem PhiS_zero2 (c : Dev nD) (n : ℕ) (h : n ≤ cfg2.N) (hz : n = 0) : PhiS2 V c n h = Pipeline.ΦA spec2 c := by
  subst hz; rfl

/-- After point `n`. -/
theorem PhiS_succ2 (c : Dev nD) (n : ℕ) (hn : n < cfg2.N) :
    PhiS2 V c (n + 1) hn = iprop(iprop(owns (c : Thread nD τ) scM2_0 fullShare ((outsAt2 V c n hn).2.2) ∗ Pipeline.scopedRestBut spec2 c [cc2_scratch0]) ∗ (∃ r, prngReg c r)) := rfl

/-- Before a point that is not the first. -/
theorem PhiS_pos2 (c : Dev nD) (n : ℕ) (h : n ≤ cfg2.N) (hz : n ≠ 0) :
    PhiS2 V c n h = iprop(iprop(owns (c : Thread nD τ) scM2_0 fullShare ((outsAt2 V c (n - 1) (by omega)).2.2) ∗ Pipeline.scopedRestBut spec2 c [cc2_scratch0]) ∗ (∃ r, prngReg c r)) := by
  cases n with
  | zero => exact absurd rfl hz
  | succ n => rfl

/-! ## The pipeline's proof data -/

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS2 V c t.val (Nat.le_of_lt_succ t.isLt)
  q _ := fullShare
  owed _ := 0

/-- The proof data's arrays are the region-entry contents, by projecting the definition. -/
theorem A_eq2 (c : Dev nD) (w : Fin cfg2.W) : (dat2 V c).A w = V c (Pipeline.arrRef spec2 w) := by
  dsimp only [dat2]

/-- The invariant at a point's start, restated at `t.val`. -/
theorem PhiS_castSucc2 (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS_succ2]
  have hN : t.val < 72 := lt_of_lt_of_eq t.isLt (show cfg2.N = 72 from N_2)
  by_cases h0 : t.val % 24 = 0
  · by_cases h1 : t.val % 24 = 23
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [show (dat2 V c).leavesExact 4 t = owns (c : Thread nD τ) (ms2_4 t) fullShare ((dat2 V c).after 4 t) from by
      unfold Dat.leavesExact; rw [liveAt2_4 t], after2_4]
      by_cases hz : t.val = 0
      · rw [PhiS_castSucc2 V c t, PhiS_zero2 V c _ _ hz, PhiA2_eq]
        rw [outsAt2_A V c t h0 h1]
        unfold out2_A_4 sout2_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover2_A_4 c _ _ _ _ _ _ _ _ _ _ _ _ _ _ _ _ _ _)
      · rw [PhiS_castSucc2 V c t, PhiS_pos2 V c _ _ hz]
        rw [outsAt2_A V c t h0 h1]
        unfold out2_A_4 sout2_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_A_0 c _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover2_A_4 c _ _ _ _ _ _ _ _ _ _ _ _ _ _ _ _ _ _)
  · by_cases h1 : t.val % 24 = 23
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1)], after2_3]
      rw [show (dat2 V c).leavesExact 4 t = owns (c : Thread nD τ) (ms2_4 t) fullShare ((dat2 V c).after 4 t) from by
      unfold Dat.leavesExact; rw [liveAt2_4 t], after2_4]
      by_cases hz : t.val = 0
      · exfalso; have hN : t.val < 72 := lt_of_lt_of_eq t.isLt (show cfg2.N = 72 from N_2); omega
      · rw [PhiS_castSucc2 V c t, PhiS_pos2 V c _ _ hz]
        rw [outsAt2_C V c t h0 h1]
        unfold out2_C_3 out2_C_4 sout2_C_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_C_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover2_C_3 c _ _ _ _ _ _ _ _ _ _ _ _ _ _ _ _ _ _ _)
        unfold owns; iexists _; isplitr
        swap; · iexact H4
        ipureintro; exact View.read_writes_of_cover _ _ _ _ _ (cover2_C_4 c _ _ _ _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [show (dat2 V c).leavesExact 4 t = owns (c : Thread nD τ) (ms2_4 t) fullShare ((dat2 V c).after 4 t) from by
      unfold Dat.leavesExact; rw [liveAt2_4 t], after2_4]
      by_cases hz : t.val = 0
      · exfalso; have hN : t.val < 72 := lt_of_lt_of_eq t.isLt (show cfg2.N = 72 from N_2); omega
      · rw [PhiS_castSucc2 V c t, PhiS_pos2 V c _ _ hz]
        rw [outsAt2_B V c t h0 h1]
        unfold out2_B_4 sout2_B_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover2_B_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover2_B_4 c _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS_zero2 V c 0 _ rfl]
  try exact Idealize.SL.BI.Entails.refl _

/-- After any point but the first the invariant gives `ΦA` back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS_pos2 V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 72 := N_2; omega)

end Regions

end Cert.KernelIdeal.Gen

end
-- ==== Proof.RunIdeal.Region3.lean ====
/- Call 3 of the program, at any contents `V` its arrays are entered with: the body's run in each of its cases, what each
   grid point leaves in the output blocks and in the scratch, and the body's obligation to the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## The windows' blocks -/

/-- Window `w`'s block at point `t`, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0, from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 — by arithmetic of the point. -/
theorem hcond3_0 : ∀ t : Fin cfg3.N, cond3_0 (grid3.coords t) ↔ t.val % 24 = 0 :=
  (fun t => by
    have ht : t.val < 144 := Nat.lt_of_lt_of_eq t.isLt N_3
    have e0 : (grid3.coords t 0).val = t.val / 24 % 6 := Pipeline.Grid.coords_val t 0 (by decide) rfl
    have e1 : (grid3.coords t 1).val = t.val / 1 % 24 := Pipeline.Grid.coords_val t 1 (by decide) rfl
    simp only [cond3_0, e0, e1]
    word_cmp
   : ∀ t : Fin grid3.N, cond3_0 (grid3.coords t) ↔ t.val % 24 = 0)

/-- The condition of the body's `scf.if` 1, from the grid coordinates. -/
abbrev cond3_1 (i : grid3.Coords) : Prop := k3_cond2 i = 1#1
/-- It holds at the points ≡ 23 — by arithmetic of the point. -/
theorem hcond3_1 : ∀ t : Fin cfg3.N, cond3_1 (grid3.coords t) ↔ t.val % 24 = 23 :=
  (fun t => by
    have ht : t.val < 144 := Nat.lt_of_lt_of_eq t.isLt N_3
    have e0 : (grid3.coords t 0).val = t.val / 24 % 6 := Pipeline.Grid.coords_val t 0 (by decide) rfl
    have e1 : (grid3.coords t 1).val = t.val / 1 % 24 := Pipeline.Grid.coords_val t 1 (by decide) rfl
    simp only [cond3_1, k3_cond2, e0, e1]
    word_cmp
   : ∀ t : Fin grid3.N, cond3_1 (grid3.coords t) ↔ t.val % 24 = 23)

/-! ## Where the windows are idle (the printed configuration's table `Cfg.idle`) -/

/-- Window 0 is never idle. -/
theorem liveAt3_0 : ∀ t : Fin cfg3.N, cfg3.idle 0 (grid3.coords t) = false := fun _ => rfl
/-- Window 1 is never idle. -/
theorem liveAt3_1 : ∀ t : Fin cfg3.N, cfg3.idle 1 (grid3.coords t) = false := fun _ => rfl
/-- Window 2 is never idle. -/
theorem liveAt3_2 : ∀ t : Fin cfg3.N, cfg3.idle 2 (grid3.coords t) = false := fun _ => rfl
/-- Window 4 is never idle. -/
theorem liveAt3_4 : ∀ t : Fin cfg3.N, cfg3.idle 4 (grid3.coords t) = false := fun _ => rfl
/-- At the points of case A the printed configuration calls output 3 idle. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B the printed configuration calls output 3 idle. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C the printed configuration calls output 3 live. -/
theorem liveAt3_3_C : ∀ t : Fin cfg3.N, ¬cond3_0 (grid3.coords t) → cond3_1 (grid3.coords t) → cfg3.idle 3 (grid3.coords t) = false := by decide +kernel

/-! ## The kernel body on any staging memrefs: a subtype the run finds -/

/-- One staging buffer of output window 3, through which its contents are stated. -/
abbrev VO3_3 : View sig .tc .vmem S768x4608 .bf16 := (Memref.whole cc3_stg3_0 : Memref sig .tc .vmem S768x4608 .bf16).view
/-- One staging buffer of output window 4, through which its contents are stated. -/
abbrev VO3_4 : View sig .tc .vmem S768x512 .i8 := (Memref.whole cc3_stg4_0 : Memref sig .tc .vmem S768x512 .i8).view
/-- Each window's current staging memref at point `t`, spelled as the pipeline passes it, and its wholeness. -/
abbrev ms3_0 (t : Fin cfg3.N) : Memref sig .tc .vmem S384x512 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x4608 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S768x4608 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S768x512 .i8 := win3_4.stage (cfg3.slots t 4)
abbrev hs3_4 (t : Fin cfg3.N) : (ms3_4 t).IsWhole := hstage3_4 ((cfg3.slots t 4).cast nbuf3_4)
/-- The scratch operands. -/
abbrev scM3_0 : Memref sig .tc .vmem S768x4608 .f32 := Memref.whole cc3_scratch0
/-- The scratch `arg9` the kernel carries between points, as a view. -/
abbrev VS3_0 : View sig .tc .vmem S768x4608 .f32 := scM3_0.view

/-- `Gen.scopedRest3_split` as ONE chain. -/
theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ Pipeline.scopedRestBut spec3 c [cc3_scratch0]) := by
  rw [scopedRest3_split]

theorem PhiA3_eq (c : Dev nD) :
    (Pipeline.ΦA spec3 c : sProp 𝕄)
      = iprop(iprop((∃ d, owns (c : Thread nD τ) scM3_0 fullShare d) ∗ Pipeline.scopedRestBut spec3 c [cc3_scratch0]) ∗ (∃ r, prngReg c r)) := by
  unfold Pipeline.ΦA; rw [scopedRest3_flat]; simp only [scM3_0, owns_whole]; try rfl

set_option maxHeartbeats 1000000 in
noncomputable def kernelRun3_A (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xi3 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg7 fullShare xi3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc3_matmul_4 i arg2 harg2 arg3 harg3 arg4 harg4 (Memref.whole main_v16_0) (Memref.isWhole_whole _) (Memref.whole main_v16_1) (Memref.isWhole_whole _) arg7 harg7 arg8 harg8 arg9 harg9) K } := by
  refine ⟨[], ?_, ?_, fun xi3 E K => ?run⟩
  case run =>
    simp only [cc3_matmul_4_eq_skeleton]; unfold cc3_matmul_4_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg7.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg7.read_unread _
      iexact H3
    isplitl [H4]; · iexists _; iexact H4
    iexists _; iexact HS0

def out3_A_3 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) : Vec F S768x4608 .bf16 :=
  VO3_3.read (Elt F) (VO3_3.writes (Elt F) VO3_3.junk (kernelRun3_A c i arg2 harg2 arg3 harg3 arg4 harg4 arg7 harg7 arg8 harg8 arg9 harg9 hc0 hc1 x0 x1 x2).1)

/-- Case A's pieces for output 4 tile its block, so they cover it. -/
theorem cover3_A_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) (y : S768x512.Idx) :
    ∃ pc ∈ (kernelRun3_A c i arg2 harg2 arg3 harg3 arg4 harg4 arg7 harg7 arg8 harg8 arg9 harg9 hc0 hc1 x0 x1 x2).2.1, y ∈ pc.1.set :=
  View.cover_of_tiledL (kernelRun3_A c i arg2 harg2 arg3 harg3 arg4 harg4 arg7 harg7 arg8 harg8 arg9 harg9 hc0 hc1 x0 x1 x2).2.1 S768x512.size (by sl_kernel_rfl) y

/-- What case A leaves in output 4's staging buffer. -/
def out3_A_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) : Vec F S768x512 .i8 :=
  VO3_4.read (Elt F) (VO3_4.writes (Elt F) VO3_4.junk (kernelRun3_A c i arg2 harg2 arg3 harg3 arg4 harg4 arg7 harg7 arg8 harg8 arg9 harg9 hc0 hc1 x0 x1 x2).2.1)

/-- Case A's pieces for scratch `arg9`, which the kernel carries between points, cover it. -/
theorem scover3_A_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) (y : S768x4608.Idx) :
    ∃ pc ∈ (kernelRun3_A c i arg2 harg2 arg3 harg3 arg4 harg4 arg7 harg7 arg8 harg8 arg9 harg9 hc0 hc1 x0 x1 x2).2.2.1, y ∈ pc.1.set :=
  View.cover_of_tiledL (kernelRun3_A c i arg2 harg2 arg3 harg3 arg4 harg4 arg7 harg7 arg8 harg8 arg9 harg9 hc0 hc1 x0 x1 x2).2.2.1 S768x4608.size (by sl_kernel_rfl) y

/-- What case A leaves in scratch `arg9`. -/
def sout3_A_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : cond3_0 i) (hc1 : ¬cond3_1 i)
    (x0 : Vec F S384x512 .i32) (x1 : Vec F S512x4608 .bf16) (x2 : Vec F S8x512 .f32) : Vec F S768x4608 .f32 :=
  VS3_0.read (Elt F) (VS3_0.writes (Elt F) VS3_0.junk (kernelRun3_A c i arg2 harg2 arg3 harg3 arg4 harg4 arg7 harg7 arg8 harg8 arg9 harg9 hc0 hc1 x0 x1 x2).2.2.1)

set_option maxHeartbeats 1000000 in
noncomputable def kernelRun3_B (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (xi3 : Vec F S768x4608 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg7 fullShare xi3 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg7 fullShare xi3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc3_matmul_4 i arg2 harg2 arg3 harg3 arg4 harg4 (Memref.whole main_v16_0) (Memref.isWhole_whole _) (Memref.whole main_v16_1) (Memref.isWhole_whole _) arg7 harg7 arg8 harg8 arg9 harg9) K } := by
  refine ⟨[], ?_, ?_, fun xi3 E K => ?run⟩
  case run =>
    simp only [cc3_matmul_4_eq_skeleton]; unfold cc3_matmul_4_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hf3; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg7.read_unread _
      iexact H3
    isplitl [H4]; · iexists _; iexact H4
    iexists _; iexact HS0

def out3_B_3 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) : Vec F S768x4608 .bf16 :=
  VO3_3.read (Elt F) (VO3_3.writes (Elt F) VO3_3.junk (kernelRun3_B c i arg2 harg2 arg3 harg3 arg4 harg4 arg7 harg7 arg8 harg8 arg9 harg9 hc0 hc1 x0 x1 x2 xs0).1)

/-- Case B's pieces for output 4 tile its block, so they cover it. -/
theorem cover3_B_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) (y : S768x512.Idx) :
    ∃ pc ∈ (kernelRun3_B c i arg2 harg2 arg3 harg3 arg4 harg4 arg7 harg7 arg8 harg8 arg9 harg9 hc0 hc1 x0 x1 x2 xs0).2.1, y ∈ pc.1.set :=
  View.cover_of_tiledL (kernelRun3_B c i arg2 harg2 arg3 harg3 arg4 harg4 arg7 harg7 arg8 harg8 arg9 harg9 hc0 hc1 x0 x1 x2 xs0).2.1 S768x512.size (by sl_kernel_rfl) y

/-- What case B leaves in output 4's staging buffer. -/
def out3_B_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) : Vec F S768x512 .i8 :=
  VO3_4.read (Elt F) (VO3_4.writes (Elt F) VO3_4.junk (kernelRun3_B c i arg2 harg2 arg3 harg3 arg4 harg4 arg7 harg7 arg8 harg8 arg9 harg9 hc0 hc1 x0 x1 x2 xs0).2.1)

/-- Case B's pieces for scratch `arg9`, which the kernel carries between points, cover it. -/
theorem scover3_B_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) (y : S768x4608.Idx) :
    ∃ pc ∈ (kernelRun3_B c i arg2 harg2 arg3 harg3 arg4 harg4 arg7 harg7 arg8 harg8 arg9 harg9 hc0 hc1 x0 x1 x2 xs0).2.2.1, y ∈ pc.1.set :=
  View.cover_of_tiledL (kernelRun3_B c i arg2 harg2 arg3 harg3 arg4 harg4 arg7 harg7 arg8 harg8 arg9 harg9 hc0 hc1 x0 x1 x2 xs0).2.2.1 S768x4608.size (by sl_kernel_rfl) y

/-- What case B leaves in scratch `arg9`. -/
def sout3_B_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : ¬cond3_1 i)
    (x0 : Vec F S384x512 .i32) (x1 : Vec F S512x4608 .bf16) (x2 : Vec F S8x512 .f32) (xs0 : Vec F S768x4608 .f32) : Vec F S768x4608 .f32 :=
  VS3_0.read (Elt F) (VS3_0.writes (Elt F) VS3_0.junk (kernelRun3_B c i arg2 harg2 arg3 harg3 arg4 harg4 arg7 harg7 arg8 harg8 arg9 harg9 hc0 hc1 x0 x1 x2 xs0).2.2.1)

set_option maxHeartbeats 1000000 in
noncomputable def kernelRun3_C (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) :
    Σ' (L3 : List (View.Piece (Elt F) S768x4608 .bf16)), Σ' (L4 : List (View.Piece (Elt F) S768x512 .i8)), { LS0 : List (View.Piece (Elt F) S768x4608 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0)) -∗ K ⟨⟩))
          ⊢ wp frame (wpE (defs₀ (F := F)) Variants.none c none) E (cc3_matmul_4 i arg2 harg2 arg3 harg3 arg4 harg4 (Memref.whole main_v16_0) (Memref.isWhole_whole _) (Memref.whole main_v16_1) (Memref.isWhole_whole _) arg7 harg7 arg8 harg8 arg9 harg9) K } := by
  refine ⟨?_, ?_, ?_, fun E K => ?run⟩
  case run =>
    simp only [cc3_matmul_4_eq_skeleton]; unfold cc3_matmul_4_skel
    simp only [k3_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- Case C's pieces for output 3 tile its block, so they cover it. -/
theorem cover3_C_3 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) (y : S768x4608.Idx) :
    ∃ pc ∈ (kernelRun3_C c i arg2 harg2 arg3 harg3 arg4 harg4 arg7 harg7 arg8 harg8 arg9 harg9 hc0 hc1 x0 x1 x2 xs0).1, y ∈ pc.1.set :=
  View.cover_of_tiledL (kernelRun3_C c i arg2 harg2 arg3 harg3 arg4 harg4 arg7 harg7 arg8 harg8 arg9 harg9 hc0 hc1 x0 x1 x2 xs0).1 S768x4608.size (by sl_kernel_rfl) y

/-- What case C leaves in output 3's staging buffer. -/
def out3_C_3 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) : Vec F S768x4608 .bf16 :=
  VO3_3.read (Elt F) (VO3_3.writes (Elt F) VO3_3.junk (kernelRun3_C c i arg2 harg2 arg3 harg3 arg4 harg4 arg7 harg7 arg8 harg8 arg9 harg9 hc0 hc1 x0 x1 x2 xs0).1)

/-- Case C's pieces for output 4 tile its block, so they cover it. -/
theorem cover3_C_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) (y : S768x512.Idx) :
    ∃ pc ∈ (kernelRun3_C c i arg2 harg2 arg3 harg3 arg4 harg4 arg7 harg7 arg8 harg8 arg9 harg9 hc0 hc1 x0 x1 x2 xs0).2.1, y ∈ pc.1.set :=
  View.cover_of_tiledL (kernelRun3_C c i arg2 harg2 arg3 harg3 arg4 harg4 arg7 harg7 arg8 harg8 arg9 harg9 hc0 hc1 x0 x1 x2 xs0).2.1 S768x512.size (by sl_kernel_rfl) y

/-- What case C leaves in output 4's staging buffer. -/
def out3_C_4 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) : Vec F S768x512 .i8 :=
  VO3_4.read (Elt F) (VO3_4.writes (Elt F) VO3_4.junk (kernelRun3_C c i arg2 harg2 arg3 harg3 arg4 harg4 arg7 harg7 arg8 harg8 arg9 harg9 hc0 hc1 x0 x1 x2 xs0).2.1)

/-- Case C's pieces for scratch `arg9`, which the kernel carries between points, cover it. -/
theorem scover3_C_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) (y : S768x4608.Idx) :
    ∃ pc ∈ (kernelRun3_C c i arg2 harg2 arg3 harg3 arg4 harg4 arg7 harg7 arg8 harg8 arg9 harg9 hc0 hc1 x0 x1 x2 xs0).2.2.1, y ∈ pc.1.set :=
  View.cover_of_tiledL (kernelRun3_C c i arg2 harg2 arg3 harg3 arg4 harg4 arg7 harg7 arg8 harg8 arg9 harg9 hc0 hc1 x0 x1 x2 xs0).2.2.1 S768x4608.size (by sl_kernel_rfl) y

/-- What case C leaves in scratch `arg9`. -/
def sout3_C_0 (c : Dev nD) (i : grid3.Coords) (arg2 : Memref sig .tc .vmem S384x512 .i32) (harg2 : arg2.IsWhole) (arg3 : Memref sig .tc .vmem S512x4608 .bf16) (harg3 : arg3.IsWhole) (arg4 : Memref sig .tc .vmem S8x512 .f32) (harg4 : arg4.IsWhole) (arg7 : Memref sig .tc .vmem S768x4608 .bf16) (harg7 : arg7.IsWhole) (arg8 : Memref sig .tc .vmem S768x512 .i8) (harg8 : arg8.IsWhole) (arg9 : Memref sig .tc .vmem S768x4608 .f32) (harg9 : arg9.IsWhole) (hc0 : ¬cond3_0 i) (hc1 : cond3_1 i)
    (x0 : Vec F S384x512 .i32) (x1 : Vec F S512x4608 .bf16) (x2 : Vec F S8x512 .f32) (xs0 : Vec F S768x4608 .f32) : Vec F S768x4608 .f32 :=
  VS3_0.read (Elt F) (VS3_0.writes (Elt F) VS3_0.junk (kernelRun3_C c i arg2 harg2 arg3 harg3 arg4 harg4 arg7 harg7 arg8 harg8 arg9 harg9 hc0 hc1 x0 x1 x2 xs0).2.2.1)

/-! ## What the outputs hold after each point -/

def outsAt3 (c : Dev nD) : (n : ℕ) → n < cfg3.N → Vec F S768x4608 .bf16 × Vec F S768x512 .i8 × Vec F S768x4608 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 24 = 0 then
      if h1 : (n + 1) % 24 = 23 then
        False.elim (by have hN : n + 1 < 144 := lt_of_lt_of_eq hn (show cfg3.N = 144 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 24 = 23 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2.2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.2)

/-- `outsAt3` at a point of case A: that case's contents. -/
theorem outsAt3_A (c : Dev nD) (t : Fin cfg3.N) (h0 : t.val % 24 = 0) (h1 : ¬t.val % 24 = 23) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 24 = 0) (h1 : ¬t.val % 24 = 23) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 24 = 0) (h1 : t.val % 24 = 23) :
    outsAt3 V c t.val t.isLt = (out3_C_3 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2) ∗ Pipeline.scopedRestBut spec3 c [cc3_scratch0]) ∗ (∃ r, prngReg c r))

theorem PhiS_zero3 (c : Dev nD) (n : ℕ) (h : n ≤ cfg3.N) (hz : n = 0) : PhiS3 V c n h = Pipeline.ΦA spec3 c := by
  subst hz; rfl

/-- After point `n`. -/
theorem PhiS_succ3 (c : Dev nD) (n : ℕ) (hn : n < cfg3.N) :
    PhiS3 V c (n + 1) hn = iprop(iprop(owns (c : Thread nD τ) scM3_0 fullShare ((outsAt3 V c n hn).2.2) ∗ Pipeline.scopedRestBut spec3 c [cc3_scratch0]) ∗ (∃ r, prngReg c r)) := rfl

/-- Before a point that is not the first. -/
theorem PhiS_pos3 (c : Dev nD) (n : ℕ) (h : n ≤ cfg3.N) (hz : n ≠ 0) :
    PhiS3 V c n h = iprop(iprop(owns (c : Thread nD τ) scM3_0 fullShare ((outsAt3 V c (n - 1) (by omega)).2.2) ∗ Pipeline.scopedRestBut spec3 c [cc3_scratch0]) ∗ (∃ r, prngReg c r)) := by
  cases n with
  | zero => exact absurd rfl hz
  | succ n => rfl

/-! ## The pipeline's proof data -/

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
  Φ t := PhiS3 V c t.val (Nat.le_of_lt_succ t.isLt)
  q _ := fullShare
  owed _ := 0

/-- The proof data's arrays are the region-entry contents, by projecting the definition. -/
theorem A_eq3 (c : Dev nD) (w : Fin cfg3.W) : (dat3 V c).A w = V c (Pipeline.arrRef spec3 w) := by
  dsimp only [dat3]

/-- The invariant at a point's start, restated at `t.val`. -/
theorem PhiS_castSucc3 (c : Dev nD) (t : Fin cfg3.N) :
    (dat3 V c).Φ t.castSucc = PhiS3 V c t.val (Nat.le_of_lt t.isLt) := by
  dsimp only [dat3]; exact Pipeline.Dat.Φ_castSucc (PhiS3 V c) t

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS_succ3]
  have hN : t.val < 144 := lt_of_lt_of_eq t.isLt (show cfg3.N = 144 from N_3)
  by_cases h0 : t.val % 24 = 0
  · by_cases h1 : t.val % 24 = 23
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [show (dat3 V c).leavesExact 4 t = owns (c : Thread nD τ) (ms3_4 t) fullShare ((dat3 V c).after 4 t) from by
      unfold Dat.leavesExact; rw [liveAt3_4 t], after3_4]
      by_cases hz : t.val = 0
      · rw [PhiS_castSucc3 V c t, PhiS_zero3 V c _ _ hz, PhiA3_eq]
        rw [outsAt3_A V c t h0 h1]
        unfold out3_A_4 sout3_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_A_0 c _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_A_4 c _ _ _ _ _ _ _ _ _ _ _ _ _ _ _ _ _ _)
      · rw [PhiS_castSucc3 V c t, PhiS_pos3 V c _ _ hz]
        rw [outsAt3_A V c t h0 h1]
        unfold out3_A_4 sout3_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t)).2.2.2 _ Set.univ _)
        isplitl [H0]; · iexact H0
        isplitl [H1]; · iexact H1
        isplitl [H2]; · iexact H2
        isplitl [H3]; · iexact H3
        isplitl [H4]; · iexists _; iexact H4
        isplitl [HS0]; · iexists _; iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_A_0 c _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_A_4 c _ _ _ _ _ _ _ _ _ _ _ _ _ _ _ _ _ _)
  · by_cases h1 : t.val % 24 = 23
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3_C t (fun h => h0 ((hcond3_0 t).mp h)) ((hcond3_1 t).mpr h1)], after3_3]
      rw [show (dat3 V c).leavesExact 4 t = owns (c : Thread nD τ) (ms3_4 t) fullShare ((dat3 V c).after 4 t) from by
      unfold Dat.leavesExact; rw [liveAt3_4 t], after3_4]
      by_cases hz : t.val = 0
      · exfalso; have hN : t.val < 144 := lt_of_lt_of_eq t.isLt (show cfg3.N = 144 from N_3); omega
      · rw [PhiS_castSucc3 V c t, PhiS_pos3 V c _ _ hz]
        rw [outsAt3_C V c t h0 h1]
        unfold out3_C_3 out3_C_4 sout3_C_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) _).2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        iintro ⟨H0, H1, H2, ⟨%e3, H3⟩, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_C_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover3_C_3 c _ _ _ _ _ _ _ _ _ _ _ _ _ _ _ _ _ _ _)
        unfold owns; iexists _; isplitr
        swap; · iexact H4
        ipureintro; exact View.read_writes_of_cover _ _ _ _ _ (cover3_C_4 c _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [show (dat3 V c).leavesExact 4 t = owns (c : Thread nD τ) (ms3_4 t) fullShare ((dat3 V c).after 4 t) from by
      unfold Dat.leavesExact; rw [liveAt3_4 t], after3_4]
      by_cases hz : t.val = 0
      · exfalso; have hN : t.val < 144 := lt_of_lt_of_eq t.isLt (show cfg3.N = 144 from N_3); omega
      · rw [PhiS_castSucc3 V c t, PhiS_pos3 V c _ _ hz]
        rw [outsAt3_B V c t h0 h1]
        unfold out3_B_4 sout3_B_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) _).2.2.2 _ Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover3_B_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexists _; iexact H3
        unfold owns; iexists _; isplitr
        swap; · iexact H4
        ipureintro; exact View.read_writes_of_cover _ _ _ _ _ (cover3_B_4 c _ _ _ _ _ _ _ _ _ _ _ _ _ _ _ _ _ _ _)

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS_zero3 V c 0 _ rfl]
  try exact Idealize.SL.BI.Entails.refl _

/-- After any point but the first the invariant gives `ΦA` back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS_pos3 V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 144 := N_3; omega)

end Regions

end Cert.KernelIdeal.Gen

end
-- ==== Proof.RunIdeal.Hosts0.lean ====
/- The host operations between the calls: the references they write, none of them an argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4, main_arg5, main_arg6, main_arg7]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3, main_v4, main_v5, main_v6, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays. -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v7]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays. -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v8, main_c_1]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays. -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_v9]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays. -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v10, main_v11, main_v12, main_c_2]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays. -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_v13]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays. -/
theorem hostOps0_7_args : ∀ a ∈ argRefs, a ∉ hostOps0_7_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v16_0, main_v16_1]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v17_0, main_v17_1]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays. -/
theorem hostOps3_args : ∀ a ∈ argRefs, a ∉ hostOps3_W := ListAll.forall_mem_of_all_decide (by decide +kernel)

end Cert.KernelIdeal.Gen

end
-- ==== Proof.RunIdeal.Fold0.lean ====
/- The contents of every buffer at each boundary of the program, and every argument read back through them. -/
module

public import proofs.«01_k».proof.Proof.RunIdeal.Region0
public import proofs.«01_k».proof.Proof.RunIdeal.Region1
public import proofs.«01_k».proof.Proof.RunIdeal.Region2
public import proofs.«01_k».proof.Proof.RunIdeal.Region3
public import proofs.«01_k».proof.Proof.RunIdeal.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- The same read at the TensorCore's references. -/
abbrev V8 : (c : Dev nD) → (b : Ref sig .tc) → Buf (Elt F) ((c : Thread nD τ).loc b) := fun c b => W8 m ρ c b
/-- At region 0's exit. -/
def W9 (c : Dev nD) : Valuation τ sig (Elt F) :=
  Pipeline.withArrays spec0 c (W8 m ρ c) fun w => (dat0 (V8 m ρ) c).arrAt w cfg0.N
theorem W9_arr (c : Dev nD) (w : Fin cfg0.W) :
    W9 m ρ c (Proc.devRef .tc (Pipeline.arrRef spec0 w)) = (dat0 (V8 m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
/-- A reference that is none of region 0's OUTPUT arrays keeps its entry contents across it. -/
theorem W9_of (c : Dev nD) (r : Ref sig .tc) (h : ∀ w : Fin cfg0.W, Pipeline.arrRef spec0 w = r → (cfg0.win w).isOut = false) :
    W9 m ρ c (Proc.devRef .tc r) = W8 m ρ c (Proc.devRef .tc r) := by
  by_cases hw : ∃ w : Fin cfg0.W, Pipeline.arrRef spec0 w = r
  · obtain ⟨w, rfl⟩ := hw
    exact (W9_arr m ρ c w).trans (((dat0 (V8 m ρ) c).arrAt_in w (h w rfl) _).trans (A_eq0 (V8 m ρ) c w))
  · exact W9_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn0 a ha)).trans (W8_args m ρ c a ha)
/-- The same read at the TensorCore's references. -/
abbrev V9 : (c : Dev nD) → (b : Ref sig .tc) → Buf (Elt F) ((c : Thread nD τ).loc b) := fun c b => W9 m ρ c b
/-- At region 0's exit each of its arrays holds what the pipeline leaves and every other buffer what it held at entry. -/
theorem hF0 (c : Dev nD) (w : Fin cfg0.W) : (dat0 (V8 m ρ) c).arrAt w cfg0.N = V9 m ρ c (Pipeline.arrRef spec0 w) :=
  (W9_arr m ρ c w).symm
theorem hrest0 (c : Dev nD) : ∀ b, b ∉ Finset.univ.image (Pipeline.arrRef spec0) → V9 m ρ c b = V8 m ρ c b :=
  fun b hb => W9_of_ne m ρ c b fun w e => hb (Finset.mem_image.mpr ⟨w, Finset.mem_univ _, e⟩)

/-- At region 1's exit. -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- A reference that is none of region 1's OUTPUT arrays keeps its entry contents across it. -/
theorem W10_of (c : Dev nD) (r : Ref sig .tc) (h : ∀ w : Fin cfg1.W, Pipeline.arrRef spec1 w = r → (cfg1.win w).isOut = false) :
    W10 m ρ c (Proc.devRef .tc r) = W9 m ρ c (Proc.devRef .tc r) := by
  by_cases hw : ∃ w : Fin cfg1.W, Pipeline.arrRef spec1 w = r
  · obtain ⟨w, rfl⟩ := hw
    exact (W10_arr m ρ c w).trans (((dat1 (V9 m ρ) c).arrAt_in w (h w rfl) _).trans (A_eq1 (V9 m ρ) c w))
  · exact W10_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn1 a ha)).trans (W9_args m ρ c a ha)
/-- The same read at the TensorCore's references. -/
abbrev V10 : (c : Dev nD) → (b : Ref sig .tc) → Buf (Elt F) ((c : Thread nD τ).loc b) := fun c b => W10 m ρ c b
/-- At region 1's exit each of its arrays holds what the pipeline leaves and every other buffer what it held at entry. -/
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- After `hostOps2`. -/
abbrev W11 : Dev nD → Valuation τ sig (Elt F) := fun c => StableHlo.after hostOps2 (W10 m ρ c)
/-- A reference `hostOps2` does not write keeps its contents across it. -/
theorem W11_of (c : Dev nD) (r : Ref sig .tc) (h : r ∉ hostOps2_W) : W11 m ρ c (Proc.devRef .tc r) = W10 m ρ c (Proc.devRef .tc r) :=
  StableHlo.after_of_writes_sub hostOps2 _ hostOps2_writes h
theorem W11_args (c : Dev nD) : ∀ a ∈ argRefs, W11 m ρ c (Proc.devRef .tc a) = m ((c : Thread nD τ).loc a) :=
  fun a ha => (W11_of m ρ c a (hostOps2_args a ha)).trans (W10_args m ρ c a ha)
/-- The same read at the TensorCore's references. -/
abbrev V11 : (c : Dev nD) → (b : Ref sig .tc) → Buf (Elt F) ((c : Thread nD τ).loc b) := fun c b => W11 m ρ c b
/-- At region 2's exit. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- A reference that is none of region 2's OUTPUT arrays keeps its entry contents across it. -/
theorem W12_of (c : Dev nD) (r : Ref sig .tc) (h : ∀ w : Fin cfg2.W, Pipeline.arrRef spec2 w = r → (cfg2.win w).isOut = false) :
    W12 m ρ c (Proc.devRef .tc r) = W11 m ρ c (Proc.devRef .tc r) := by
  by_cases hw : ∃ w : Fin cfg2.W, Pipeline.arrRef spec2 w = r
  · obtain ⟨w, rfl⟩ := hw
    exact (W12_arr m ρ c w).trans (((dat2 (V11 m ρ) c).arrAt_in w (h w rfl) _).trans (A_eq2 (V11 m ρ) c w))
  · exact W12_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn2 a ha)).trans (W11_args m ρ c a ha)
/-- The same read at the TensorCore's references. -/
abbrev V12 : (c : Dev nD) → (b : Ref sig .tc) → Buf (Elt F) ((c : Thread nD τ).loc b) := fun c b => W12 m ρ c b
/-- At region 2's exit each of its arrays holds what the pipeline leaves and every other buffer what it held at entry. -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

/-- After `hostOps3`. -/
abbrev W13 : Dev nD → Valuation τ sig (Elt F) := fun c => StableHlo.after hostOps3 (W12 m ρ c)
/-- A reference `hostOps3` does not write keeps its contents across it. -/
theorem W13_of (c : Dev nD) (r : Ref sig .tc) (h : r ∉ hostOps3_W) : W13 m ρ c (Proc.devRef .tc r) = W12 m ρ c (Proc.devRef .tc r) :=
  StableHlo.after_of_writes_sub hostOps3 _ hostOps3_writes h
theorem W13_args (c : Dev nD) : ∀ a ∈ argRefs, W13 m ρ c (Proc.devRef .tc a) = m ((c : Thread nD τ).loc a) :=
  fun a ha => (W13_of m ρ c a (hostOps3_args a ha)).trans (W12_args m ρ c a ha)
/-- The same read at the TensorCore's references. -/
abbrev V13 : (c : Dev nD) → (b : Ref sig .tc) → Buf (Elt F) ((c : Thread nD τ).loc b) := fun c b => W13 m ρ c b
/-- At region 3's exit. -/
def W14 (c : Dev nD) : Valuation τ sig (Elt F) :=
  Pipeline.withArrays spec3 c (W13 m ρ c) fun w => (dat3 (V13 m ρ) c).arrAt w cfg3.N
theorem W14_arr (c : Dev nD) (w : Fin cfg3.W) :
    W14 m ρ c (Proc.devRef .tc (Pipeline.arrRef spec3 w)) = (dat3 (V13 m ρ) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m ρ c (Proc.devRef .tc b) = W13 m ρ c (Proc.devRef .tc b) := by
  unfold W14; exact Pipeline.withArrays_of_ne spec3 c _ _ b hb
/-- A reference that is none of region 3's OUTPUT arrays keeps its entry contents across it. -/
theorem W14_of (c : Dev nD) (r : Ref sig .tc) (h : ∀ w : Fin cfg3.W, Pipeline.arrRef spec3 w = r → (cfg3.win w).isOut = false) :
    W14 m ρ c (Proc.devRef .tc r) = W13 m ρ c (Proc.devRef .tc r) := by
  by_cases hw : ∃ w : Fin cfg3.W, Pipeline.arrRef spec3 w = r
  · obtain ⟨w, rfl⟩ := hw
    exact (W14_arr m ρ c w).trans (((dat3 (V13 m ρ) c).arrAt_in w (h w rfl) _).trans (A_eq3 (V13 m ρ) c w))
  · exact W14_of_ne m ρ c r fun w e => hw ⟨w, e⟩
/-- Every argument among region 3's arrays is an input window's. -/
theorem argsIn3 : ∀ a ∈ argRefs, ∀ w : Fin cfg3.W, Pipeline.arrRef spec3 w = a → (cfg3.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn3 a ha)).trans (W13_args m ρ c a ha)
/-- The same read at the TensorCore's references. -/
abbrev V14 : (c : Dev nD) → (b : Ref sig .tc) → Buf (Elt F) ((c : Thread nD τ).loc b) := fun c b => W14 m ρ c b
/-- At region 3's exit each of its arrays holds what the pipeline leaves and every other buffer what it held at entry. -/
theorem hF3 (c : Dev nD) (w : Fin cfg3.W) : (dat3 (V13 m ρ) c).arrAt w cfg3.N = V14 m ρ c (Pipeline.arrRef spec3 w) :=
  (W14_arr m ρ c w).symm
theorem hrest3 (c : Dev nD) : ∀ b, b ∉ Finset.univ.image (Pipeline.arrRef spec3) → V14 m ρ c b = V13 m ρ c b :=
  fun b hb => W14_of_ne m ρ c b fun w e => hb (Finset.mem_image.mpr ⟨w, Finset.mem_univ _, e⟩)

/-! ### The arguments end as launched: no host stretch writes one and no region may change one (a region reads it
    through an input window or bypasses it) -/

theorem W14_main_arg0 (c : Dev nD) : W14 m ρ c (Proc.devRef .tc main_arg0) = m ((c : Thread nD τ).loc main_arg0) :=
  W14_args m ρ c main_arg0 (by decide)
theorem W14_main_arg1 (c : Dev nD) : W14 m ρ c (Proc.devRef .tc main_arg1) = m ((c : Thread nD τ).loc main_arg1) :=
  W14_args m ρ c main_arg1 (by decide)
theorem W14_main_arg2 (c : Dev nD) : W14 m ρ c (Proc.devRef .tc main_arg2) = m ((c : Thread nD τ).loc main_arg2) :=
  W14_args m ρ c main_arg2 (by decide)
theorem W14_main_arg3 (c : Dev nD) : W14 m ρ c (Proc.devRef .tc main_arg3) = m ((c : Thread nD τ).loc main_arg3) :=
  W14_args m ρ c main_arg3 (by decide)
theorem W14_main_arg4 (c : Dev nD) : W14 m ρ c (Proc.devRef .tc main_arg4) = m ((c : Thread nD τ).loc main_arg4) :=
  W14_args m ρ c main_arg4 (by decide)
theorem W14_main_arg5 (c : Dev nD) : W14 m ρ c (Proc.devRef .tc main_arg5) = m ((c : Thread nD τ).loc main_arg5) :=
  W14_args m ρ c main_arg5 (by decide)
theorem W14_main_arg6 (c : Dev nD) : W14 m ρ c (Proc.devRef .tc main_arg6) = m ((c : Thread nD τ).loc main_arg6) :=
  W14_args m ρ c main_arg6 (by decide)
theorem W14_main_arg7 (c : Dev nD) : W14 m ρ c (Proc.devRef .tc main_arg7) = m ((c : Thread nD τ).loc main_arg7) :=
  W14_args m ρ c main_arg7 (by decide)
end Cert.KernelIdeal.Gen

end
-- ==== Proof.RunIdeal.State.lean ====
/- The four calls' proof data at their entry contents, and the state a core holds between them. -/
module

public import proofs.«01_k».proof.Proof.RunIdeal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents. -/
abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V8 m ρ) c
  | ⟨1, _⟩ => fun c => dat1 (V9 m ρ) c
  | ⟨2, _⟩ => fun c => dat2 (V11 m ρ) c
  | ⟨3, _⟩ => fun c => dat3 (V13 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W14 m ρ c) ∗ ∃ r, prngReg c r)

end Cert.KernelIdeal.Gen

end
-- ==== Proof.RunIdeal.Record0.lean ====
/- Call 0 as one segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- REGION 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8 m ρ c) (A_eq0 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8 m ρ c) (V9 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record1.lean ====
/- Call 1 as one segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) (A_eq1 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (V9 m ρ) c)
    unfold Pipeline.ΦA
    iintro ⟨Hp, -, Hr⟩
    isplitl [Hr]; · iexact Hr
    iexact Hp
  hout c := by
    rw [Pipeline.ownSems0_none]
    refine (hout1 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record2.lean ====
/- Call 2 as one segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) (A_eq2 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (hin2 (V11 m ρ) c)
    unfold Pipeline.ΦA
    iintro ⟨Hp, -, Hr⟩
    isplitl [Hr]; · iexact Hr
    iexact Hp
  hout c := by
    rw [Pipeline.ownSems0_none]
    refine (hout2 (V11 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunIdeal.Record3.lean ====
/- Call 3 as one segment of the run. -/
module

public import proofs.«01_k».proof.Proof.RunIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 3 over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V13 m ρ) c).loose
  hwaits := Pipeline.hwaits_of_owed_zero _ _ _ _ L lv 3 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V13 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V13 m ρ c) (A_eq3 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (V13 m ρ) c)
    unfold Pipeline.ΦA
    iintro ⟨Hp, -, Hr⟩
    isplitl [Hr]; · iexact Hr
    iexact Hp
  hout c := by
    rw [Pipeline.ownSems0_none]
    refine (hout3 (V13 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V13 m ρ c) (V14 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.RunIdeal.Frame.lean ====
/- The whole program: its segments in order, and the run from any memory. -/
module

public import proofs.«01_k».proof.Proof.RunIdeal.Record0
public import proofs.«01_k».proof.Proof.RunIdeal.Record1
public import proofs.«01_k».proof.Proof.RunIdeal.Record2
public import proofs.«01_k».proof.Proof.RunIdeal.Record3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 14 segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .region (reg1 m ρ),
    .host (hseg hostOps2 hostOps2_sub hostOps2_fresh (W10 m ρ)),
    .region (reg2 m ρ),
    .host (hseg hostOps3 hostOps3_sub hostOps3_fresh (W12 m ρ)),
    .region (reg3 m ρ) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every buffer ends with the contents of the program's last boundary, and no semaphore is raised. -/
theorem final : θ_run defs (onTc (τ := τ) (main (F := F))) ⟨m, fun _ => 0, ρ⟩ (fun r => (∀ c : Dev nD,
      ∀ b ∈ Pipeline.ucRefs τ sig, r.2.mem (((c : Thread nD τ)).1, b) = W14 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

/-- The arguments end as they began, and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
      ⟨(h.1 c _ (mem_uc main_arg0 (by decide))).trans (W14_main_arg0 m ρ c),
       (h.1 c _ (mem_uc main_arg1 (by decide))).trans (W14_main_arg1 m ρ c),
       (h.1 c _ (mem_uc main_arg2 (by decide))).trans (W14_main_arg2 m ρ c),
       (h.1 c _ (mem_uc main_arg3 (by decide))).trans (W14_main_arg3 m ρ c),
       (h.1 c _ (mem_uc main_arg4 (by decide))).trans (W14_main_arg4 m ρ c),
       (h.1 c _ (mem_uc main_arg5 (by decide))).trans (W14_main_arg5 m ρ c),
       (h.1 c _ (mem_uc main_arg6 (by decide))).trans (W14_main_arg6 m ρ c),
       (h.1 c _ (mem_uc main_arg7 (by decide))).trans (W14_main_arg7 m ρ c)⟩, h.2⟩) (final m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h => h.1) (frame m ρ)

end Cert.KernelIdeal.Gen

end
-- ==== Proof.Transfer.lean ====
/- The printed program and its idealization are one text: both read the same operations, so that what the run proves of the
   second at any reading of the floats holds of the first. -/
module
public import proofs.«01_k».proof.Defs
public import proofs.«01_k».proof.Proof.Gen.Kernel
public import proofs.«01_k».proof.Proof.RunIdeal.Frame
@[expose] public section
set_option maxRecDepth 65536
noncomputable section
namespace Cert.Transfer
open Idealize.ShloMosaic Idealize.ShloMosaic.TcCoe Idealize.SL.Sem

/-- The frame of the idealization's text, read at machine floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

theorem frameAtBits : FrameAtBits := fun m g _ => Cert.KernelIdeal.Gen.frame m g

/-- The two statements are the same proposition: checked by unfolding both programs. -/
theorem quiescent_eq : Cert.quiescent_Kernel (hKernel := Cert.Kernel.Gen.facts) = FrameAtBits := by chain_rfl

/-- The frame of the printed program at machine floats. -/
theorem quiescent : Cert.quiescent_Kernel (hKernel := Cert.Kernel.Gen.facts) := quiescent_eq.mpr frameAtBits
end Cert.Transfer
end
-- ==== Proof.Val.Spec.lean ====
/- The quantiser, at one element: a row's value scaled, rounded, shifted by its zero point and clipped; the code stored for it and
   the value it stands for. Rows come packed two to a word: row `2r` in the low halves, row `2r + 1` in the high ones. -/
module

public import Idealize.ShloMosaic.Lib.Pipeline.ValueKit
public import Idealize.ShloMosaic.Lib.BitcastPair

@[expose] public section
noncomputable section
namespace Cert.Spec
open Idealize.ShloMosaic

/-- `clip(round(x / s) + z, -128, 127)`. -/
def quant (x s z : EReal) : EReal :=
  min (Ideal.ofBits FTy.f32 1123942400#32)
    (max (Ideal.ofBits FTy.f32 3271557120#32) (Ideal.liftRound Ideal.roundHalfEven (Ideal.div x s) + z))

/-- The code as a signed byte. -/
def code (x s z : EReal) : BitVec 8 := FloatOps.fptosi (F := Ideal) (φ := .f32) 8 (quant x s z)

/-- The value that the code stands for. -/
def deq (x s z : EReal) : EReal := (quant x s z - z) * s

/-- The signed four-bit field of a byte that holds two: the low one for an even column, the high one for an odd column. -/
def field (b : BitVec 8) (k : ℕ) : EReal := (((b.extractLsb' (4 * (k % 2)) 4).toInt : ℝ) : EReal)

/-- Element `(r, l)` of the rows packed in the words `X`. -/
def row {h : ℕ} [NeZero h] (X : (⟨2, ![h, 12288]⟩ : Shape).Idx → BitVec 32) (r : ℕ) (l : Fin 12288) : EReal :=
  Ideal.ofBits .bf16 ((X (ix2 ⟨r / 2 % h, Nat.mod_lt _ (Nat.pos_of_ne_zero (NeZero.ne h))⟩ l)).extractLsb' (16 * (r % 2)) 16)

/-- Words read as pairs of rows, at an index. -/
theorem bitcast_rows {h n : ℕ} (x : (⟨2, ![h, n]⟩ : Shape).Idx → BitVec 32) {H : ℕ}
    (hb : (⟨2, ![h, n]⟩ : Shape).Bitcasts 32 ⟨2, ![H, n]⟩ 16) (a : Fin H) (l : Fin n) (p : Fin h) (hp : p.val = a.val / 2) :
    bitcast ⟨2, ![H, n]⟩ 16 x hb (ix2 a l) = (x (ix2 p l)).extractLsb' (16 * (a.val % 2)) 16 := by
  rw [bitcast_32_16]
  have e : ∀ q, hb.srcIdx (ix2 a l) ((⟨2, ![H, n]⟩ : Shape).row (ix2 a l) / 2) q = ix2 p l := by
    intro q
    funext c
    match c with
    | ⟨0, _⟩ => exact Fin.ext ((hb.srcIdx_row _ _ _ ⟨0, Nat.zero_lt_two⟩ rfl).trans hp.symm)
    | ⟨1, _⟩ => exact Fin.ext (hb.srcIdx_other _ _ _ ⟨1, Nat.one_lt_two⟩ (by show ¬ 1 + 2 = 2; omega))
  rw [e]; rfl

end Cert.Spec
-- ==== Proof.Val.Pay.lean ====
/- What one grid step of the matrix product computes at an element. -/
module

public import proofs.«01_k».proof.Proof.Gen.KernelIdeal.Skeleton
public import proofs.«01_k».proof.Proof.Val.Spec

@[expose] public section
set_option maxRecDepth 16384
noncomputable section
namespace Cert.KernelIdeal.Gen
open Idealize.ShloMosaic Cert.Spec

/-- Element `(r, l)` of the 768 rows of a block of words. -/
def blkRow (v : Vec Ideal S384x512 .i32) (r : Fin 768) (l : Fin 512) : EReal :=
  Ideal.ofBits .bf16 ((v (ix2 (⟨r.val / 2, by omega⟩ : Fin 384) l)).extractLsb' (16 * (r.val % 2)) 16)

/-- The value that a code of the block stands for. -/
theorem pay4_at (s z : Vec Ideal S1x512 .f32) (v : Vec Ideal S384x512 .i32) (r : Fin 768) (l : Fin 512) :
    k1_pay4 s z v (ix2 r l) = quant (blkRow v r l) (s (ix2 0 l)) (z (ix2 0 l)) := by
  pointwise [k1_pay4, k1_pay2, k1_pay3]
  unfold quant blkRow
  rw [bitcast_rows v bitcasts_S384x512_w32_S768x512_w16 r l ⟨r.val / 2, by omega⟩ rfl]

/-- A code of the block. -/
theorem pay5_at (s z : Vec Ideal S1x512 .f32) (v : Vec Ideal S384x512 .i32) (j : S768x512.Idx) :
    k1_pay5 s z v j = code (blkRow v (j 0) (j 1)) (s (ix2 0 (j 1))) (z (ix2 0 (j 1))) := by
  obtain ⟨r, l, rfl⟩ : ∃ (r : Fin 768) (l : Fin 512), j = ix2 r l := ⟨j 0, j 1, by blk_ext⟩
  unfold code
  rw [show k1_pay5 s z v (ix2 r l) = FloatOps.fptosi 8 (k1_pay4 s z v (ix2 r l)) from rfl, pay4_at]
  rfl

/-- The sum held and the block product, at an element. -/
theorem pay7_at (s z : Vec Ideal S1x512 .f32) (v : Vec Ideal S384x512 .i32) (acc : Vec Ideal S768x4608 .f32) (w : Vec Ideal S512x4608 .bf16) (j : S768x4608.Idx) :
    k1_pay7 s z v acc w j = acc j + ∑ l : Fin 512, deq (blkRow v (j 0) l) (s (ix2 0 l)) (z (ix2 0 l)) * w (ix2 l (j 1)) := by
  pointwise [k1_pay7, k1_pay2, k1_pay3]
  refine congrArg (acc j + ·) (Finset.sum_congr rfl fun l _ => ?_)
  have h := pay4_at s z v (j 0) l
  unfold deq
  rw [← h]

/-- The sum starts from zero. -/
theorem pay6_at (j : S768x4608.Idx) : k1_pay6 (F := Ideal) j = 0 := by pointwise [k1_pay6]
/-- The sum is written out as it is. -/
theorem pay1_at (x : Vec Ideal S768x4608 .f32) (j : S768x4608.Idx) : k1_pay1 (F := Ideal) x j = x j := by pointwise [k1_pay1]

/-- The three calls run one body. -/
theorem pay2_eq : @k2_pay1 Ideal _ = k1_pay1 ∧ @k2_pay5 Ideal _ = k1_pay5 ∧ @k2_pay6 Ideal _ = k1_pay6 ∧ @k2_pay7 Ideal _ = k1_pay7 :=
  ⟨rfl, rfl, rfl, rfl⟩
/-- The calls' terms are the first call's. -/
theorem pay3_eq : @k3_pay1 Ideal _ = k1_pay1 ∧ @k3_pay5 Ideal _ = k1_pay5 ∧ @k3_pay6 Ideal _ = k1_pay6 ∧ @k3_pay7 Ideal _ = k1_pay7 :=
  ⟨rfl, rfl, rfl, rfl⟩

end Cert.KernelIdeal.Gen
-- ==== Proof.Val.Mm1.lean ====
/- Call 1: the arrays its windows leave, at any contents they are entered with. -/
module

public import proofs.«01_k».proof.Proof.RunIdeal.Region1
public import proofs.«01_k».proof.Proof.Val.Pay
public import Idealize.ShloMosaic.Lib.Pipeline.ValueKit
public import Idealize.ShloMosaic.Lib.Pipeline.ReadBack

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The windows' block indices at each point. -/
theorem idx1 : ∀ t : Fin cfg1.N, win1_0.index t = ![t.val / 24, t.val % 24] ∧ win1_1.index t = ![t.val % 24, 0]
    ∧ win1_2.index t = ![0, t.val % 24] ∧ win1_3.index t = ![t.val / 24, 0] ∧ win1_4.index t = ![t.val / 24, t.val % 24] :=
  (by decide +kernel : ∀ t : Fin grid1.N, _)

/-- A block's rows are the array's, at the block's place. -/
theorem rowBlk1 (c : Dev nD) (t : Fin cfg1.N) (r : Fin 768) (l : Fin 512) (R : ℕ) (L : Fin 12288)
    (hR : R = t.val / 24 * 768 + r) (hL : L.val = t.val % 24 * 512 + l) :
    blkRow (iblk1 V c 0 t) r l = row (h := 384) (V c (Pipeline.arrRef spec1 0)) R L := by
  have ht : t.val < 24 := Nat.lt_of_lt_of_eq t.isLt N_1
  have e : iblk1 V c 0 t (ix2 (⟨r.val / 2, by omega⟩ : Fin 384) l) = V c (Pipeline.arrRef spec1 0) (ix2 (⟨R / 2 % 384, by omega⟩ : Fin 384) L) := by
    blk_ext [iblk1, idx1 t]
  have e2 : R % 2 = r.val % 2 := by omega
  unfold blkRow row
  rw [e2]
  exact congrArg (fun w : BitVec 32 => Ideal.ofBits .bf16 (w.extractLsb' (16 * (r.val % 2)) 16)) e
/-- The scales' row. -/
theorem scaleBlk1 (c : Dev nD) (t : Fin cfg1.N) (l : Fin 512) (L : Fin 12288) (hL : L.val = t.val % 24 * 512 + l) :
    View.ld (iblk1 V c 2 t) (Rect.unit ![0, 0] ![1, 512] inb_S8x512_S1x512_0_0) (ix2 0 l) = V c (Pipeline.arrRef spec1 2) (ix2 0 L) := by
  pointwise
  blk_ext [iblk1, idx1 t]
/-- The zero points' row. -/
theorem zeroBlk1 (c : Dev nD) (t : Fin cfg1.N) (l : Fin 512) (L : Fin 12288) (hL : L.val = t.val % 24 * 512 + l) :
    View.ld (iblk1 V c 2 t) (Rect.unit ![1, 0] ![1, 512] inb_S8x512_S1x512_1_0) (ix2 0 l) = V c (Pipeline.arrRef spec1 2) (ix2 1 L) := by
  pointwise
  blk_ext [iblk1, idx1 t]

/-- The codes that a point leaves. -/
theorem codesAt1 (c : Dev nD) (t : Fin cfg1.N) (y : S768x512.Idx) :
    (outsAt1 V c t.val t.isLt).2.1 y
      = k1_pay5 (View.ld (iblk1 V c 2 t) (Rect.unit ![0, 0] ![1, 512] inb_S8x512_S1x512_0_0))
          (View.ld (iblk1 V c 2 t) (Rect.unit ![1, 0] ![1, 512] inb_S8x512_S1x512_1_0)) (iblk1 V c 0 t) y := by
  by_cases h0 : t.val % 24 = 0 <;> by_cases h1 : t.val % 24 = 23
  · omega
  · rw [outsAt1_A V c t h0 h1]; frame_out; rfl
  · rw [outsAt1_C V c t h0 h1]; frame_out; rfl
  · rw [outsAt1_B V c t h0 h1]; frame_out; rfl

/-- Every code of the call's tiles; the others stay as they were. -/
theorem codes1 (c : Dev nD) : (dat1 V c).arrAt 4 cfg1.N = fun i => if (i 0 : ℕ) < 768 then
      code (row (h := 384) (V c (Pipeline.arrRef spec1 0)) (i 0 : ℕ) (i 1)) (V c (Pipeline.arrRef spec1 2) (ix2 0 (i 1))) (V c (Pipeline.arrRef spec1 2) (ix2 1 (i 1)))
    else V c (Pipeline.arrRef spec1 4) i := by
  refine (dat1 V c).arrAt_eq_of_coversWhere 4 _ (fun β => β 0 < 1) (by decide +kernel) (fun t hf y => ?_)
    (fun j => by blk_simp [Pipeline.Window.cell_apply]; omega)
  blk_simp
  rw [after1_4, codesAt1, pay5_at]
  refine congr (congr (congrArg code (rowBlk1 V c t _ _ _ _ ?_ ?_)) (scaleBlk1 V c t _ _ ?_)) (zeroBlk1 V c t _ _ ?_)
  all_goals (blk_simp [idx1 t] <;> omega)

/-- The sum held after a point that does not start a row of tiles: the point before's, and this point's part. -/
theorem acc1_BC (c : Dev nD) (t : Fin cfg1.N) (h0 : ¬ t.val % 24 = 0) :
    (outsAt1 V c t.val t.isLt).2.2 = k1_pay7 (View.ld (iblk1 V c 2 t) (Rect.unit ![0, 0] ![1, 512] inb_S8x512_S1x512_0_0))
        (View.ld (iblk1 V c 2 t) (Rect.unit ![1, 0] ![1, 512] inb_S8x512_S1x512_1_0)) (iblk1 V c 0 t)
        (outsAt1 V c (t.val - 1) (Nat.lt_of_le_of_lt (Nat.sub_le _ _) t.isLt)).2.2 (iblk1 V c 1 t) := by
  by_cases h1 : t.val % 24 = 23
  · rw [outsAt1_C V c t h0 h1]; frame_out; rw [read_unread_whole]; rfl
  · rw [outsAt1_B V c t h0 h1]; frame_out; rw [read_unread_whole]; rfl

/-- At a row's first point the sum starts from zero. -/
theorem acc1_A (c : Dev nD) (t : Fin cfg1.N) (h0 : t.val % 24 = 0) :
    (outsAt1 V c t.val t.isLt).2.2 = k1_pay7 (View.ld (iblk1 V c 2 t) (Rect.unit ![0, 0] ![1, 512] inb_S8x512_S1x512_0_0))
        (View.ld (iblk1 V c 2 t) (Rect.unit ![1, 0] ![1, 512] inb_S8x512_S1x512_1_0)) (iblk1 V c 0 t) (k1_pay6 (F := Ideal)) (iblk1 V c 1 t) := by
  have h1 : ¬ t.val % 24 = 23 := by omega
  rw [outsAt1_A V c t h0 h1]; frame_out; rfl

/-- At a row's last point the block written out is the sum held. -/
theorem out1_C (c : Dev nD) (t : Fin cfg1.N) (h1 : t.val % 24 = 23) :
    (outsAt1 V c t.val t.isLt).1 = k1_pay1 (outsAt1 V c t.val t.isLt).2.2 := by
  have h0 : ¬ t.val % 24 = 0 := by omega
  rw [outsAt1_C V c t h0 h1]; frame_out

/-- The sum over all the columns, for the call's rows; the others stay as they were. -/
theorem y1 (c : Dev nD) : (dat1 V c).arrAt 3 cfg1.N = fun i => if (i 0 : ℕ) < 768 then
      ∑ l : Fin 12288, deq (row (h := 384) (V c (Pipeline.arrRef spec1 0)) (i 0 : ℕ) l) (V c (Pipeline.arrRef spec1 2) (ix2 0 l))
        (V c (Pipeline.arrRef spec1 2) (ix2 1 l)) * (show FVec Ideal S12288x4608 .bf16 from V c (Pipeline.arrRef spec1 1)) (ix2 l (i 1))
    else V c (Pipeline.arrRef spec1 3) i := by
  refine (dat1 V c).arrAt_eq_of_coversWhere 3 _ (fun β => β 0 < 1) (by decide +kernel) (fun t hf y => ?_)
    (fun j => by blk_simp [Pipeline.Window.cell_apply]; omega)
  blk_simp
  rw [after1_3, out1_C V c t ((flush1_3 t).mp hf), pay1_at,
    Pipeline.eq_sum_fin_of_reset_step_apply_of_flush (fun n h => (outsAt1 V c n h).2.2) 24 (fun _ => 0)
      _
      (fun t h j => by rw [acc1_A V c t h, pay7_at, pay6_at])
      (fun t h j => by rw [acc1_BC V c t h, pay7_at])
      t ((flush1_3 t).mp hf) _, zero_add]
  refine Fin.sum_mul_add_congr fun s k hl => ?_
  refine congr (congrArg HMul.hMul (congr (congr (congrArg deq (rowBlk1 V c _ _ _ _ _ ?_ ?_)) (scaleBlk1 V c _ _ _ ?_)) (zeroBlk1 V c _ _ _ ?_))) ?_
  · blk_simp [idx1 t]
    show (t.val / 24) * 768 + (y 0).val = (24 * (t.val / 24) + s.val) / 24 * 768 + (y 0).val
    omega
  iterate 3 (show s.val * 512 + k.val = (24 * (t.val / 24) + s.val) % 24 * 512 + k.val; omega)
  · blk_ext [iblk1, idx1 t, idx1 ⟨_, Pipeline.run_point_lt_of_flush t ((flush1_3 t).mp hf) s⟩]

end Cert.KernelIdeal.Gen
-- ==== Proof.Val.Mm2.lean ====
/- Call 2: the arrays its windows leave, at any contents they are entered with. -/
module

public import proofs.«01_k».proof.Proof.RunIdeal.Region2
public import proofs.«01_k».proof.Proof.Val.Pay
public import Idealize.ShloMosaic.Lib.Pipeline.ValueKit
public import Idealize.ShloMosaic.Lib.Pipeline.ReadBack

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The windows' block indices at each point. -/
theorem idx2 : ∀ t : Fin cfg2.N, win2_0.index t = ![t.val / 24, t.val % 24] ∧ win2_1.index t = ![t.val % 24, 0]
    ∧ win2_2.index t = ![0, t.val % 24] ∧ win2_3.index t = ![1 + t.val / 24, 0] ∧ win2_4.index t = ![1 + t.val / 24, t.val % 24] :=
  (by decide +kernel : ∀ t : Fin grid2.N, _)

/-- A block's rows are the array's, at the block's place. -/
theorem rowBlk2 (c : Dev nD) (t : Fin cfg2.N) (r : Fin 768) (l : Fin 512) (R : ℕ) (L : Fin 12288)
    (hR : R = t.val / 24 * 768 + r) (hL : L.val = t.val % 24 * 512 + l) :
    blkRow (iblk2 V c 0 t) r l = row (h := 1152) (V c (Pipeline.arrRef spec2 0)) R L := by
  have ht : t.val < 72 := Nat.lt_of_lt_of_eq t.isLt N_2
  have e : iblk2 V c 0 t (ix2 (⟨r.val / 2, by omega⟩ : Fin 384) l) = V c (Pipeline.arrRef spec2 0) (ix2 (⟨R / 2 % 1152, by omega⟩ : Fin 1152) L) := by
    blk_ext [iblk2, idx2 t]
  have e2 : R % 2 = r.val % 2 := by omega
  unfold blkRow row
  rw [e2]
  exact congrArg (fun w : BitVec 32 => Ideal.ofBits .bf16 (w.extractLsb' (16 * (r.val % 2)) 16)) e
/-- The scales' row. -/
theorem scaleBlk2 (c : Dev nD) (t : Fin cfg2.N) (l : Fin 512) (L : Fin 12288) (hL : L.val = t.val % 24 * 512 + l) :
    View.ld (iblk2 V c 2 t) (Rect.unit ![0, 0] ![1, 512] inb_S8x512_S1x512_0_0) (ix2 0 l) = V c (Pipeline.arrRef spec2 2) (ix2 0 L) := by
  pointwise
  blk_ext [iblk2, idx2 t]
/-- The zero points' row. -/
theorem zeroBlk2 (c : Dev nD) (t : Fin cfg2.N) (l : Fin 512) (L : Fin 12288) (hL : L.val = t.val % 24 * 512 + l) :
    View.ld (iblk2 V c 2 t) (Rect.unit ![1, 0] ![1, 512] inb_S8x512_S1x512_1_0) (ix2 0 l) = V c (Pipeline.arrRef spec2 2) (ix2 1 L) := by
  pointwise
  blk_ext [iblk2, idx2 t]

/-- The codes that a point leaves. -/
theorem codesAt2 (c : Dev nD) (t : Fin cfg2.N) (y : S768x512.Idx) :
    (outsAt2 V c t.val t.isLt).2.1 y
      = k1_pay5 (View.ld (iblk2 V c 2 t) (Rect.unit ![0, 0] ![1, 512] inb_S8x512_S1x512_0_0))
          (View.ld (iblk2 V c 2 t) (Rect.unit ![1, 0] ![1, 512] inb_S8x512_S1x512_1_0)) (iblk2 V c 0 t) y := by
  rw [← pay2_eq.2.1]
  by_cases h0 : t.val % 24 = 0 <;> by_cases h1 : t.val % 24 = 23
  · omega
  · rw [outsAt2_A V c t h0 h1]; frame_out; rfl
  · rw [outsAt2_C V c t h0 h1]; frame_out; rfl
  · rw [outsAt2_B V c t h0 h1]; frame_out; rfl

/-- Every code of the call's tiles; the others stay as they were. -/
theorem codes2 (c : Dev nD) : (dat2 V c).arrAt 4 cfg2.N = fun i => if 768 ≤ (i 0 : ℕ) ∧ (i 0 : ℕ) < 3072 then
      code (row (h := 1152) (V c (Pipeline.arrRef spec2 0)) ((i 0 : ℕ) - 768) (i 1)) (V c (Pipeline.arrRef spec2 2) (ix2 0 (i 1))) (V c (Pipeline.arrRef spec2 2) (ix2 1 (i 1)))
    else V c (Pipeline.arrRef spec2 4) i := by
  refine (dat2 V c).arrAt_eq_of_coversWhere 4 _ (fun β => 1 ≤ β 0 ∧ β 0 < 4) (by decide +kernel) (fun t hf y => ?_)
    (fun j => by blk_simp [Pipeline.Window.cell_apply]; omega)
  blk_simp
  rw [after2_4, codesAt2, pay5_at]
  refine congr (congr (congrArg code (rowBlk2 V c t _ _ _ _ ?_ ?_)) (scaleBlk2 V c t _ _ ?_)) (zeroBlk2 V c t _ _ ?_)
  all_goals (blk_simp [idx2 t] <;> omega)

/-- The sum held after a point that does not start a row of tiles: the point before's, and this point's part. -/
theorem acc2_BC (c : Dev nD) (t : Fin cfg2.N) (h0 : ¬ t.val % 24 = 0) :
    (outsAt2 V c t.val t.isLt).2.2 = k1_pay7 (View.ld (iblk2 V c 2 t) (Rect.unit ![0, 0] ![1, 512] inb_S8x512_S1x512_0_0))
        (View.ld (iblk2 V c 2 t) (Rect.unit ![1, 0] ![1, 512] inb_S8x512_S1x512_1_0)) (iblk2 V c 0 t)
        (outsAt2 V c (t.val - 1) (Nat.lt_of_le_of_lt (Nat.sub_le _ _) t.isLt)).2.2 (iblk2 V c 1 t) := by
  rw [← pay2_eq.2.2.2]
  by_cases h1 : t.val % 24 = 23
  · rw [outsAt2_C V c t h0 h1]; frame_out; rw [read_unread_whole]; rfl
  · rw [outsAt2_B V c t h0 h1]; frame_out; rw [read_unread_whole]; rfl

/-- At a row's first point the sum starts from zero. -/
theorem acc2_A (c : Dev nD) (t : Fin cfg2.N) (h0 : t.val % 24 = 0) :
    (outsAt2 V c t.val t.isLt).2.2 = k1_pay7 (View.ld (iblk2 V c 2 t) (Rect.unit ![0, 0] ![1, 512] inb_S8x512_S1x512_0_0))
        (View.ld (iblk2 V c 2 t) (Rect.unit ![1, 0] ![1, 512] inb_S8x512_S1x512_1_0)) (iblk2 V c 0 t) (k1_pay6 (F := Ideal)) (iblk2 V c 1 t) := by
  rw [← pay2_eq.2.2.2, ← pay2_eq.2.2.1]
  have h1 : ¬ t.val % 24 = 23 := by omega
  rw [outsAt2_A V c t h0 h1]; frame_out; rfl

/-- At a row's last point the block written out is the sum held. -/
theorem out2_C (c : Dev nD) (t : Fin cfg2.N) (h1 : t.val % 24 = 23) :
    (outsAt2 V c t.val t.isLt).1 = k1_pay1 (outsAt2 V c t.val t.isLt).2.2 := by
  rw [← pay2_eq.1]
  have h0 : ¬ t.val % 24 = 0 := by omega
  rw [outsAt2_C V c t h0 h1]; frame_out

/-- The sum over all the columns, for the call's rows; the others stay as they were. -/
theorem y2 (c : Dev nD) : (dat2 V c).arrAt 3 cfg2.N = fun i => if 768 ≤ (i 0 : ℕ) ∧ (i 0 : ℕ) < 3072 then
      ∑ l : Fin 12288, deq (row (h := 1152) (V c (Pipeline.arrRef spec2 0)) ((i 0 : ℕ) - 768) l) (V c (Pipeline.arrRef spec2 2) (ix2 0 l))
        (V c (Pipeline.arrRef spec2 2) (ix2 1 l)) * (show FVec Ideal S12288x4608 .bf16 from V c (Pipeline.arrRef spec2 1)) (ix2 l (i 1))
    else V c (Pipeline.arrRef spec2 3) i := by
  refine (dat2 V c).arrAt_eq_of_coversWhere 3 _ (fun β => 1 ≤ β 0 ∧ β 0 < 4) (by decide +kernel) (fun t hf y => ?_)
    (fun j => by blk_simp [Pipeline.Window.cell_apply]; omega)
  blk_simp
  rw [after2_3, out2_C V c t ((flush2_3 t).mp hf), pay1_at,
    Pipeline.eq_sum_fin_of_reset_step_apply_of_flush (fun n h => (outsAt2 V c n h).2.2) 24 (fun _ => 0)
      _
      (fun t h j => by rw [acc2_A V c t h, pay7_at, pay6_at])
      (fun t h j => by rw [acc2_BC V c t h, pay7_at])
      t ((flush2_3 t).mp hf) _, zero_add]
  refine Fin.sum_mul_add_congr fun s k hl => ?_
  refine congr (congrArg HMul.hMul (congr (congr (congrArg deq (rowBlk2 V c _ _ _ _ _ ?_ ?_)) (scaleBlk2 V c _ _ _ ?_)) (zeroBlk2 V c _ _ _ ?_))) ?_
  · blk_simp [idx2 t]
    show (1 + t.val / 24) * 768 + (y 0).val - 768 = (24 * (t.val / 24) + s.val) / 24 * 768 + (y 0).val
    omega
  iterate 3 (show s.val * 512 + k.val = (24 * (t.val / 24) + s.val) % 24 * 512 + k.val; omega)
  · blk_ext [iblk2, idx2 t, idx2 ⟨_, Pipeline.run_point_lt_of_flush t ((flush2_3 t).mp hf) s⟩]

end Cert.KernelIdeal.Gen
-- ==== Proof.Val.Mm3.lean ====
/- Call 3: the arrays its windows leave, at any contents they are entered with. -/
module

public import proofs.«01_k».proof.Proof.RunIdeal.Region3
public import proofs.«01_k».proof.Proof.Val.Pay
public import Idealize.ShloMosaic.Lib.Pipeline.ValueKit
public import Idealize.ShloMosaic.Lib.Pipeline.ReadBack

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The windows' block indices at each point. -/
theorem idx3 : ∀ t : Fin cfg3.N, win3_0.index t = ![t.val / 24, t.val % 24] ∧ win3_1.index t = ![t.val % 24, 0]
    ∧ win3_2.index t = ![0, t.val % 24] ∧ win3_3.index t = ![4 + t.val / 24, 0] ∧ win3_4.index t = ![4 + t.val / 24, t.val % 24] :=
  (by decide +kernel : ∀ t : Fin grid3.N, _)

/-- A block's rows are the array's, at the block's place. -/
theorem rowBlk3 (c : Dev nD) (t : Fin cfg3.N) (r : Fin 768) (l : Fin 512) (R : ℕ) (L : Fin 12288)
    (hR : R = t.val / 24 * 768 + r) (hL : L.val = t.val % 24 * 512 + l) :
    blkRow (iblk3 V c 0 t) r l = row (h := 2304) (V c (Pipeline.arrRef spec3 0)) R L := by
  have ht : t.val < 144 := Nat.lt_of_lt_of_eq t.isLt N_3
  have e : iblk3 V c 0 t (ix2 (⟨r.val / 2, by omega⟩ : Fin 384) l) = V c (Pipeline.arrRef spec3 0) (ix2 (⟨R / 2 % 2304, by omega⟩ : Fin 2304) L) := by
    blk_ext [iblk3, idx3 t]
  have e2 : R % 2 = r.val % 2 := by omega
  unfold blkRow row
  rw [e2]
  exact congrArg (fun w : BitVec 32 => Ideal.ofBits .bf16 (w.extractLsb' (16 * (r.val % 2)) 16)) e
/-- The scales' row. -/
theorem scaleBlk3 (c : Dev nD) (t : Fin cfg3.N) (l : Fin 512) (L : Fin 12288) (hL : L.val = t.val % 24 * 512 + l) :
    View.ld (iblk3 V c 2 t) (Rect.unit ![0, 0] ![1, 512] inb_S8x512_S1x512_0_0) (ix2 0 l) = V c (Pipeline.arrRef spec3 2) (ix2 0 L) := by
  pointwise
  blk_ext [iblk3, idx3 t]
/-- The zero points' row. -/
theorem zeroBlk3 (c : Dev nD) (t : Fin cfg3.N) (l : Fin 512) (L : Fin 12288) (hL : L.val = t.val % 24 * 512 + l) :
    View.ld (iblk3 V c 2 t) (Rect.unit ![1, 0] ![1, 512] inb_S8x512_S1x512_1_0) (ix2 0 l) = V c (Pipeline.arrRef spec3 2) (ix2 1 L) := by
  pointwise
  blk_ext [iblk3, idx3 t]

/-- The codes that a point leaves. -/
theorem codesAt3 (c : Dev nD) (t : Fin cfg3.N) (y : S768x512.Idx) :
    (outsAt3 V c t.val t.isLt).2.1 y
      = k1_pay5 (View.ld (iblk3 V c 2 t) (Rect.unit ![0, 0] ![1, 512] inb_S8x512_S1x512_0_0))
          (View.ld (iblk3 V c 2 t) (Rect.unit ![1, 0] ![1, 512] inb_S8x512_S1x512_1_0)) (iblk3 V c 0 t) y := by
  rw [← pay3_eq.2.1]
  by_cases h0 : t.val % 24 = 0 <;> by_cases h1 : t.val % 24 = 23
  · omega
  · rw [outsAt3_A V c t h0 h1]; frame_out; rfl
  · rw [outsAt3_C V c t h0 h1]; frame_out; rfl
  · rw [outsAt3_B V c t h0 h1]; frame_out; rfl

/-- Every code of the call's tiles; the others stay as they were. -/
theorem codes3 (c : Dev nD) : (dat3 V c).arrAt 4 cfg3.N = fun i => if 3072 ≤ (i 0 : ℕ) then
      code (row (h := 2304) (V c (Pipeline.arrRef spec3 0)) ((i 0 : ℕ) - 3072) (i 1)) (V c (Pipeline.arrRef spec3 2) (ix2 0 (i 1))) (V c (Pipeline.arrRef spec3 2) (ix2 1 (i 1)))
    else V c (Pipeline.arrRef spec3 4) i := by
  refine (dat3 V c).arrAt_eq_of_coversWhere 4 _ (fun β => 4 ≤ β 0) (by decide +kernel) (fun t hf y => ?_)
    (fun j => by blk_simp [Pipeline.Window.cell_apply]; omega)
  blk_simp
  rw [after3_4, codesAt3, pay5_at]
  refine congr (congr (congrArg code (rowBlk3 V c t _ _ _ _ ?_ ?_)) (scaleBlk3 V c t _ _ ?_)) (zeroBlk3 V c t _ _ ?_)
  all_goals (blk_simp [idx3 t] <;> omega)

/-- The sum held after a point that does not start a row of tiles: the point before's, and this point's part. -/
theorem acc3_BC (c : Dev nD) (t : Fin cfg3.N) (h0 : ¬ t.val % 24 = 0) :
    (outsAt3 V c t.val t.isLt).2.2 = k1_pay7 (View.ld (iblk3 V c 2 t) (Rect.unit ![0, 0] ![1, 512] inb_S8x512_S1x512_0_0))
        (View.ld (iblk3 V c 2 t) (Rect.unit ![1, 0] ![1, 512] inb_S8x512_S1x512_1_0)) (iblk3 V c 0 t)
        (outsAt3 V c (t.val - 1) (Nat.lt_of_le_of_lt (Nat.sub_le _ _) t.isLt)).2.2 (iblk3 V c 1 t) := by
  rw [← pay3_eq.2.2.2]
  by_cases h1 : t.val % 24 = 23
  · rw [outsAt3_C V c t h0 h1]; frame_out; rw [read_unread_whole]; rfl
  · rw [outsAt3_B V c t h0 h1]; frame_out; rw [read_unread_whole]; rfl

/-- At a row's first point the sum starts from zero. -/
theorem acc3_A (c : Dev nD) (t : Fin cfg3.N) (h0 : t.val % 24 = 0) :
    (outsAt3 V c t.val t.isLt).2.2 = k1_pay7 (View.ld (iblk3 V c 2 t) (Rect.unit ![0, 0] ![1, 512] inb_S8x512_S1x512_0_0))
        (View.ld (iblk3 V c 2 t) (Rect.unit ![1, 0] ![1, 512] inb_S8x512_S1x512_1_0)) (iblk3 V c 0 t) (k1_pay6 (F := Ideal)) (iblk3 V c 1 t) := by
  rw [← pay3_eq.2.2.2, ← pay3_eq.2.2.1]
  have h1 : ¬ t.val % 24 = 23 := by omega
  rw [outsAt3_A V c t h0 h1]; frame_out; rfl

/-- At a row's last point the block written out is the sum held. -/
theorem out3_C (c : Dev nD) (t : Fin cfg3.N) (h1 : t.val % 24 = 23) :
    (outsAt3 V c t.val t.isLt).1 = k1_pay1 (outsAt3 V c t.val t.isLt).2.2 := by
  rw [← pay3_eq.1]
  have h0 : ¬ t.val % 24 = 0 := by omega
  rw [outsAt3_C V c t h0 h1]; frame_out

/-- The sum over all the columns, for the call's rows; the others stay as they were. -/
theorem y3 (c : Dev nD) : (dat3 V c).arrAt 3 cfg3.N = fun i => if 3072 ≤ (i 0 : ℕ) then
      ∑ l : Fin 12288, deq (row (h := 2304) (V c (Pipeline.arrRef spec3 0)) ((i 0 : ℕ) - 3072) l) (V c (Pipeline.arrRef spec3 2) (ix2 0 l))
        (V c (Pipeline.arrRef spec3 2) (ix2 1 l)) * (show FVec Ideal S12288x4608 .bf16 from V c (Pipeline.arrRef spec3 1)) (ix2 l (i 1))
    else V c (Pipeline.arrRef spec3 3) i := by
  refine (dat3 V c).arrAt_eq_of_coversWhere 3 _ (fun β => 4 ≤ β 0) (by decide +kernel) (fun t hf y => ?_)
    (fun j => by blk_simp [Pipeline.Window.cell_apply]; omega)
  blk_simp
  rw [after3_3, out3_C V c t ((flush3_3 t).mp hf), pay1_at,
    Pipeline.eq_sum_fin_of_reset_step_apply_of_flush (fun n h => (outsAt3 V c n h).2.2) 24 (fun _ => 0)
      _
      (fun t h j => by rw [acc3_A V c t h, pay7_at, pay6_at])
      (fun t h j => by rw [acc3_BC V c t h, pay7_at])
      t ((flush3_3 t).mp hf) _, zero_add]
  refine Fin.sum_mul_add_congr fun s k hl => ?_
  refine congr (congrArg HMul.hMul (congr (congr (congrArg deq (rowBlk3 V c _ _ _ _ _ ?_ ?_)) (scaleBlk3 V c _ _ _ ?_)) (zeroBlk3 V c _ _ _ ?_))) ?_
  · blk_simp [idx3 t]
    show (4 + t.val / 24) * 768 + (y 0).val - 3072 = (24 * (t.val / 24) + s.val) / 24 * 768 + (y 0).val
    omega
  iterate 3 (show s.val * 512 + k.val = (24 * (t.val / 24) + s.val) % 24 * 512 + k.val; omega)
  · blk_ext [iblk3, idx3 t, idx3 ⟨_, Pipeline.run_point_lt_of_flush t ((flush3_3 t).mp hf) s⟩]

end Cert.KernelIdeal.Gen
-- ==== Proof.Val.Chain.lean ====
/- The program's results from the arrays that the prep call leaves: each call's tiles, over those the calls before it leave. -/
module

public import proofs.«01_k».proof.Proof.RunIdeal.Fold0
public import proofs.«01_k».proof.Proof.Val.Mm1
public import proofs.«01_k».proof.Proof.Val.Mm2
public import proofs.«01_k».proof.Proof.Val.Mm3

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (m : (ℓ : Loc nD τ sig) → Buf (Elt Ideal) ℓ) (ρ : Dev nD → PrngReg)

/-- The dequantised weights after the prep call. -/
def wdA (c : Dev nD) : FVec Ideal S12288x4608 .bf16 := W9 m ρ c (Proc.devRef .tc main_v14_0)
/-- The scales and zero points after the prep call. -/
def chA (c : Dev nD) : FVec Ideal S8x12288 .f32 := W9 m ρ c (Proc.devRef .tc main_v14_1)
/-- The rows as they are packed in the three arguments. -/
def X0 (c : Dev nD) : IVec S384x12288 32 := m ((c : Thread nD τ).loc main_arg0)
/-- The second argument's words. -/
def X1 (c : Dev nD) : IVec S1152x12288 32 := m ((c : Thread nD τ).loc main_arg1)
/-- The third argument's words. -/
def X2 (c : Dev nD) : IVec S2304x12288 32 := m ((c : Thread nD τ).loc main_arg2)

/-- Element `(r, l)` of all the rows. -/
def rows (x0 : IVec S384x12288 32) (x1 : IVec S1152x12288 32) (x2 : IVec S2304x12288 32) (r : ℕ) (l : Fin 12288) : EReal :=
  if r < 768 then row (h := 384) x0 r l else if r < 3072 then row (h := 1152) x1 (r - 768) l else row (h := 2304) x2 (r - 3072) l

/-- Later calls leave the weights as they are. -/
theorem w10_wd (c : Dev nD) : W10 m ρ c (Proc.devRef .tc main_v14_0) = wdA m ρ c := W10_of m ρ c main_v14_0 (by decide)
/-- Later calls leave the scales and zero points as they are. -/
theorem w10_ch (c : Dev nD) : W10 m ρ c (Proc.devRef .tc main_v14_1) = chA m ρ c := W10_of m ρ c main_v14_1 (by decide)
/-- The same before call 2. -/
theorem w11_wd (c : Dev nD) : W11 m ρ c (Proc.devRef .tc main_v14_0) = wdA m ρ c := (W11_of m ρ c main_v14_0 (by decide)).trans (w10_wd m ρ c)
/-- The same before call 2. -/
theorem w11_ch (c : Dev nD) : W11 m ρ c (Proc.devRef .tc main_v14_1) = chA m ρ c := (W11_of m ρ c main_v14_1 (by decide)).trans (w10_ch m ρ c)
/-- The same after call 2. -/
theorem w12_wd (c : Dev nD) : W12 m ρ c (Proc.devRef .tc main_v14_0) = wdA m ρ c := (W12_of m ρ c main_v14_0 (by decide)).trans (w11_wd m ρ c)
/-- The same after call 2. -/
theorem w12_ch (c : Dev nD) : W12 m ρ c (Proc.devRef .tc main_v14_1) = chA m ρ c := (W12_of m ρ c main_v14_1 (by decide)).trans (w11_ch m ρ c)
/-- The same before call 3. -/
theorem w13_wd (c : Dev nD) : W13 m ρ c (Proc.devRef .tc main_v14_0) = wdA m ρ c := (W13_of m ρ c main_v14_0 (by decide)).trans (w12_wd m ρ c)
/-- The same before call 3. -/
theorem w13_ch (c : Dev nD) : W13 m ρ c (Proc.devRef .tc main_v14_1) = chA m ρ c := (W13_of m ρ c main_v14_1 (by decide)).trans (w12_ch m ρ c)

/-- The codes of a row, given the scales and zero points. -/
def codesOf (x : ℕ → Fin 12288 → EReal) (ch : FVec Ideal S8x12288 .f32) (i : S7680x12288.Idx) : BitVec 8 :=
  code (x (i 0 : ℕ) (i 1)) (ch (ix2 0 (i 1))) (ch (ix2 1 (i 1)))
/-- The product's element, given the scales, the zero points and the weights. -/
def yOf (x : ℕ → Fin 12288 → EReal) (ch : FVec Ideal S8x12288 .f32) (wd : FVec Ideal S12288x4608 .bf16) (i : S7680x4608.Idx) : EReal :=
  ∑ l : Fin 12288, deq (x (i 0 : ℕ) l) (ch (ix2 0 l)) (ch (ix2 1 l)) * wd (ix2 l (i 1))

/-- The codes after call 1. -/
theorem codes_1 (c : Dev nD) (i : S7680x12288.Idx) (h : (i 0 : ℕ) < 768) : (W10 m ρ c (Proc.devRef .tc main_v15_1) : IVec S7680x12288 8) i = codesOf (row (h := 384) (X0 m c)) (chA m ρ c) i := by
  have e := congrFun ((W10_arr m ρ c 4).trans (codes1 (V9 m ρ) c)) i
  refine e.trans ((if_pos h).trans ?_)
  have e0 : V9 m ρ c (Pipeline.arrRef spec1 0) = X0 m c := W9_args m ρ c main_arg0 (by decide)
  rw [e0]
  rfl
/-- The sums after call 1. -/
theorem y_1 (c : Dev nD) (i : S7680x4608.Idx) (h : (i 0 : ℕ) < 768) : (W10 m ρ c (Proc.devRef .tc main_v15_0) : FVec Ideal S7680x4608 .bf16) i = yOf (row (h := 384) (X0 m c)) (chA m ρ c) (wdA m ρ c) i := by
  have e := congrFun ((W10_arr m ρ c 3).trans (y1 (V9 m ρ) c)) i
  refine e.trans ((if_pos h).trans ?_)
  have e0 : V9 m ρ c (Pipeline.arrRef spec1 0) = X0 m c := W9_args m ρ c main_arg0 (by decide)
  rw [e0]
  rfl

/-- Before call 2 the results so far are copied to its own. -/
theorem copy2 (U : Valuation τ sig (Elt Ideal)) : StableHlo.after hostOps2 U (Proc.devRef .tc main_v16_0) = U (Proc.devRef .tc main_v15_0)
    ∧ StableHlo.after hostOps2 U (Proc.devRef .tc main_v16_1) = U (Proc.devRef .tc main_v15_1) := ⟨rfl, rfl⟩
/-- Before call 3 the results so far are copied to its own. -/
theorem copy3 (U : Valuation τ sig (Elt Ideal)) : StableHlo.after hostOps3 U (Proc.devRef .tc main_v17_0) = U (Proc.devRef .tc main_v16_0)
    ∧ StableHlo.after hostOps3 U (Proc.devRef .tc main_v17_1) = U (Proc.devRef .tc main_v16_1) := ⟨rfl, rfl⟩

/-- The codes after call 2. -/
theorem codes_2 (c : Dev nD) (i : S7680x12288.Idx) (h : (i 0 : ℕ) < 3072) : (W12 m ρ c (Proc.devRef .tc main_v16_1) : IVec S7680x12288 8) i = codesOf (rows (X0 m c) (X1 m c) (X2 m c)) (chA m ρ c) i := by
  have e := congrFun ((W12_arr m ρ c 4).trans (codes2 (V11 m ρ) c)) i
  refine e.trans ?_
  by_cases h1 : (i 0 : ℕ) < 768
  · refine (if_neg (by omega)).trans (((congrFun (copy2 (W10 m ρ c)).2 i).trans (codes_1 m ρ c i h1)).trans ?_)
    unfold codesOf rows; rw [if_pos h1]
  · refine (if_pos (by omega)).trans ?_
    have e0 : V11 m ρ c (Pipeline.arrRef spec2 0) = X1 m c := W11_args m ρ c main_arg1 (by decide)
    have e2 : V11 m ρ c (Pipeline.arrRef spec2 2) = chA m ρ c := w11_ch m ρ c
    rw [e0, e2]
    unfold codesOf rows; rw [if_neg h1, if_pos h]
/-- The sums after call 2. -/
theorem y_2 (c : Dev nD) (i : S7680x4608.Idx) (h : (i 0 : ℕ) < 3072) : (W12 m ρ c (Proc.devRef .tc main_v16_0) : FVec Ideal S7680x4608 .bf16) i = yOf (rows (X0 m c) (X1 m c) (X2 m c)) (chA m ρ c) (wdA m ρ c) i := by
  have e := congrFun ((W12_arr m ρ c 3).trans (y2 (V11 m ρ) c)) i
  refine e.trans ?_
  by_cases h1 : (i 0 : ℕ) < 768
  · refine (if_neg (by omega)).trans (((congrFun (copy2 (W10 m ρ c)).1 i).trans (y_1 m ρ c i h1)).trans ?_)
    unfold yOf rows; simp only [if_pos h1]
  · refine (if_pos (by omega)).trans ?_
    have e0 : V11 m ρ c (Pipeline.arrRef spec2 0) = X1 m c := W11_args m ρ c main_arg1 (by decide)
    have e1 : V11 m ρ c (Pipeline.arrRef spec2 1) = wdA m ρ c := w11_wd m ρ c
    have e2 : V11 m ρ c (Pipeline.arrRef spec2 2) = chA m ρ c := w11_ch m ρ c
    rw [e0, e1, e2]
    unfold yOf rows; simp only [if_neg h1, if_pos h]

/-- The codes at the end. -/
theorem codes_3 (c : Dev nD) (i : S7680x12288.Idx) : (W14 m ρ c (Proc.devRef .tc main_v17_1) : IVec S7680x12288 8) i = codesOf (rows (X0 m c) (X1 m c) (X2 m c)) (chA m ρ c) i := by
  have e := congrFun ((W14_arr m ρ c 4).trans (codes3 (V13 m ρ) c)) i
  refine e.trans ?_
  by_cases h1 : (i 0 : ℕ) < 3072
  · exact (if_neg (by omega)).trans ((congrFun (copy3 (W12 m ρ c)).2 i).trans (codes_2 m ρ c i h1))
  · refine (if_pos (by omega)).trans ?_
    have e0 : V13 m ρ c (Pipeline.arrRef spec3 0) = X2 m c := W13_args m ρ c main_arg2 (by decide)
    have e2 : V13 m ρ c (Pipeline.arrRef spec3 2) = chA m ρ c := w13_ch m ρ c
    rw [e0, e2]
    unfold codesOf rows; rw [if_neg (by omega), if_neg h1]
/-- The sums at the end. -/
theorem y_3 (c : Dev nD) (i : S7680x4608.Idx) : (W14 m ρ c (Proc.devRef .tc main_v17_0) : FVec Ideal S7680x4608 .bf16) i = yOf (rows (X0 m c) (X1 m c) (X2 m c)) (chA m ρ c) (wdA m ρ c) i := by
  have e := congrFun ((W14_arr m ρ c 3).trans (y3 (V13 m ρ) c)) i
  refine e.trans ?_
  by_cases h1 : (i 0 : ℕ) < 3072
  · exact (if_neg (by omega)).trans ((congrFun (copy3 (W12 m ρ c)).1 i).trans (y_2 m ρ c i h1))
  · refine (if_pos (by omega)).trans ?_
    have h2 : ¬ (i 0 : ℕ) < 768 := by omega
    have e0 : V13 m ρ c (Pipeline.arrRef spec3 0) = X2 m c := W13_args m ρ c main_arg2 (by decide)
    have e1 : V13 m ρ c (Pipeline.arrRef spec3 1) = wdA m ρ c := w13_wd m ρ c
    have e2 : V13 m ρ c (Pipeline.arrRef spec3 2) = chA m ρ c := w13_ch m ρ c
    rw [e0, e1, e2]
    unfold yOf rows; simp only [if_neg h2, if_neg h1]

end Cert.KernelIdeal.Gen
-- ==== Proof.Val.Cluster.lean ====
/- The clusters of the channels: with ascending bounds that hold every channel, each channel lies in exactly one. -/
module

public import proofs.«01_k».proof.Proof.Val.Spec

@[expose] public section
noncomputable section
namespace Cert.Spec
open Idealize.ShloMosaic

/-- The bounds ascend from zero or below to 12288 or above. -/
def Ascend (b : ℕ → BitVec 32) : Prop :=
  (∀ k < 28, (b k).toInt ≤ (b (k + 1)).toInt) ∧ (b 0).toInt ≤ 0 ∧ 12288 ≤ (b 28).toInt

/-- Cluster `c` is the one that channel `l` lies in: the bounds at or below the channel are those up to the cluster's first. -/
def InCluster (b : ℕ → BitVec 32) (l : ℕ) (c : Fin 28) : Prop := ∀ k ≤ 28, (b k).toInt ≤ (l : ℤ) ↔ k ≤ c.val

/-- Every channel lies in a cluster. -/
theorem exists_cluster {b : ℕ → BitVec 32} (h : Ascend b) {l : ℕ} (hl : l < 12288) : ∃ c, InCluster b l c := by
  obtain ⟨hm, h0, h28⟩ := h
  have mono : ∀ j i, i ≤ j → j ≤ 28 → (b i).toInt ≤ (b j).toInt := by
    intro j
    induction j with
    | zero => intro i hi _; obtain rfl : i = 0 := by omega
              exact le_refl _
    | succ j ih =>
      intro i hi hj
      rcases Nat.lt_or_ge i (j + 1) with h | h
      · exact (ih i (by omega) (by omega)).trans (hm j (by omega))
      · obtain rfl : i = j + 1 := by omega
        exact le_refl _
  have hP0 : (b 0).toInt ≤ (l : ℤ) := by omega
  let c := Nat.findGreatest (fun k => (b k).toInt ≤ (l : ℤ)) 28
  have hc : (b c).toInt ≤ (l : ℤ) := Nat.findGreatest_spec (P := fun k => (b k).toInt ≤ (l : ℤ)) (Nat.zero_le 28) hP0
  have hc28 : c ≤ 28 := Nat.findGreatest_le 28
  have hlt : c < 28 := by
    rcases Nat.lt_or_ge c 28 with h | h
    · exact h
    · have e : c = 28 := by omega
      rw [e] at hc
      omega
  refine ⟨⟨c, hlt⟩, fun k hk => ⟨fun h => Nat.le_findGreatest hk h, fun h => (mono c k h hc28).trans hc⟩⟩

/-- How many bounds are at or below a channel: one more than its cluster's number. -/
theorem count_cluster {b : ℕ → BitVec 32} {l : ℕ} {c : Fin 28} (h : InCluster b l c) (P : ℕ → Prop) [DecidablePred P]
    (hP : ∀ k ≤ 28, P k ↔ (b k).toInt ≤ (l : ℤ)) : Nat.count P 29 = c.val + 1 := by
  have : ∀ n ≤ 29, Nat.count P n = min n (c.val + 1) := by
    intro n
    induction n with
    | zero => intro _; simp
    | succ n ih =>
      intro hn
      rw [Nat.count_succ, ih (by omega)]
      have e : P n ↔ n ≤ c.val := (hP n (by omega)).trans (h n (by omega))
      by_cases hn' : n ≤ c.val
      · rw [if_pos (e.mpr hn')]; omega
      · rw [if_neg (fun q => hn' (e.mp q))]; omega
  have hc := c.isLt
  rw [this 29 (le_refl _)]
  omega

/-- Of the clusters' intervals a channel lies in its own cluster's only. -/
theorem inside_iff {b : ℕ → BitVec 32} {l : ℕ} {c : Fin 28} (h : InCluster b l c) {k : ℕ} (hk : k < 28) :
    ((b k).toInt ≤ (l : ℤ) ∧ (l : ℤ) < (b (k + 1)).toInt) ↔ k = c.val := by
  have h1 := h k (by omega)
  have h2 := h (k + 1) (by omega)
  rw [h1, ← not_le, h2]
  omega

/-- A channel's number as a word is itself. -/
theorem toInt_chan {l : ℕ} (hl : l ≤ 12288) : (BitVec.ofNat 32 l).toInt = (l : ℤ) := by
  rw [BitVec.toInt_eq_toNat_of_lt] <;> rw [BitVec.toNat_ofNat] <;> omega

/-- The two comparisons' conjunction, as a bit. -/
theorem inside_bit (ch lo hi : BitVec 32) :
    IntOp.andi (IntOp.cmpi .sge ch lo) (IntOp.cmpi .slt ch hi) = BitVec.ofBool (decide (lo.toInt ≤ ch.toInt ∧ ch.toInt < hi.toInt)) := by
  simp only [IntOp.andi, IntOp.cmpi, BitVec.sle_eq_decide, BitVec.slt_eq_decide]
  by_cases h1 : lo.toInt ≤ ch.toInt <;> by_cases h2 : ch.toInt < hi.toInt <;> simp [h1, h2]

/-- The value of the last of the first `n` clusters that the channel `ch` lies in, zero if it lies in none. -/
def pickTo (ch : BitVec 32) (b : ℕ → BitVec 32) (a : ℕ → EReal) : ℕ → EReal
  | 0 => Ideal.ofBits .f32 0x00000000#32
  | n + 1 => Scalar.select (IntOp.andi (IntOp.cmpi .sge ch (b n)) (IntOp.cmpi .slt ch (b (n + 1)))) (a n) (pickTo ch b a n)

/-- Over all the clusters it is the value of the channel's. -/
theorem pickTo_cluster {b : ℕ → BitVec 32} {l : ℕ} {c : Fin 28} (h : InCluster b l c) (hl : l < 12288) (a : ℕ → EReal) :
    pickTo (BitVec.ofNat 32 l) b a 28 = a c := by
  have : ∀ n ≤ 28, c.val < n → pickTo (BitVec.ofNat 32 l) b a n = a c := by
    intro n
    induction n with
    | zero => intro _ h; omega
    | succ n ih =>
      intro hn hc
      have e : pickTo (BitVec.ofNat 32 l) b a (n + 1) = if n = c.val then a n else pickTo (BitVec.ofNat 32 l) b a n := by
        show Scalar.select _ _ _ = _
        rw [inside_bit, toInt_chan (by omega), Scalar.select]
        simp only [inside_iff h (show n < 28 by omega)]
        by_cases q : n = c.val <;> simp [q]
      rw [e]
      split
      · next q => rw [q]
      · exact ih (by omega) (by omega)
  exact this 28 (le_refl _) c.isLt

/-- Whether a channel lies between two bounds, as one or zero. -/
def hot (ch : BitVec 32) (lo hi : BitVec 32) : EReal :=
  FloatOps.sitofp (F := Ideal) .f32 ((IntOp.andi (IntOp.cmpi .sge ch lo) (IntOp.cmpi .slt ch hi)).setWidth 32)

/-- It is one inside the interval and zero outside. -/
theorem hot_eq (ch lo hi : BitVec 32) : hot ch lo hi = if lo.toInt ≤ ch.toInt ∧ ch.toInt < hi.toInt then 1 else 0 := by
  unfold hot
  rw [inside_bit]
  by_cases h : lo.toInt ≤ ch.toInt ∧ ch.toInt < hi.toInt
  · simp [h, FloatOps.sitofp]
  · simp [h, FloatOps.sitofp]

/-- The clusters' bounds in a row of 32, the places past the last filled with 12288. -/
def padded (b : ℕ → BitVec 32) (k : ℕ) : BitVec 32 := if k < 28 then b k else 12288#32

/-- The row of ones and zeros picks the cluster's value out of a column. -/
theorem hot_sum {b : ℕ → BitVec 32} {l : ℕ} {c : Fin 28} (h : InCluster b l c) (hl : l < 12288) (a : Fin 32 → EReal) :
    ∑ k : Fin 32, hot (BitVec.ofNat 32 l) (padded b k.val) (padded (fun n => b (n + 1)) k.val) * a k = a ⟨c.val, by omega⟩ := by
  have e : ∀ k : Fin 32, hot (BitVec.ofNat 32 l) (padded b k.val) (padded (fun n => b (n + 1)) k.val) = if k.val = c.val then 1 else 0 := by
    intro k
    rw [hot_eq, toInt_chan (by omega)]
    unfold padded
    by_cases hk : k.val < 28
    · simp only [hk, if_true, inside_iff h hk]
    · simp only [hk, if_false]
      have h1 : ¬ ((12288#32).toInt ≤ (l : ℤ)) := by
        rw [show (12288#32).toInt = 12288 from rfl]; omega
      have hc := c.isLt
      rw [if_neg (fun q => h1 q.1), if_neg (by omega)]
  rw [Finset.sum_eq_single (⟨c.val, by omega⟩ : Fin 32)]
  · rw [e]; simp
  · intro k _ hk
    rw [e, if_neg (fun q => hk (Fin.ext q)), zero_mul]
  · intro q; exact absurd (Finset.mem_univ _) q

end Cert.Spec
-- ==== Proof.Val.Hosts.lean ====
/- What the host operations before the first call leave in the arrays that the calls read. -/
module

public import proofs.«01_k».proof.Proof.RunIdeal.Fold0
public import proofs.«01_k».proof.Proof.Val.Cluster
public import Idealize.ShloMosaic.Lib.Pipeline.ValueKit

@[expose] public section
set_option maxRecDepth 16384
noncomputable section
namespace Cert.KernelIdeal.Gen
open Idealize.ShloMosaic Idealize.ShloMosaic.TcCoe Idealize.SL.Sem Cert.Spec

variable (m : (ℓ : Loc nD τ sig) → Buf (Elt Ideal) ℓ) (ρ : Dev nD → PrngReg)

/-- The clusters' first channels, padded. -/
def loRow (c : Dev nD) : IVec S32 32 :=
  pad S32 ![0] ![4] ![0] (extractStridedSlice S28 ![0] (show IVec S29 32 from m ((c : Thread nD τ).loc main_arg3)) slices_S29_S28_0) (constantI S_ 32 12288#32) pads_S28_S32_040 h_S_
/-- The clusters' ends, padded. -/
def hiRow (c : Dev nD) : IVec S32 32 :=
  pad S32 ![0] ![4] ![0] (extractStridedSlice S28 ![1] (show IVec S29 32 from m ((c : Thread nD τ).loc main_arg3)) slices_S29_S28_1) (constantI S_ 32 12288#32) pads_S28_S32_040 h_S_

/-- The first channels, as computed. -/
theorem a7 (c : Dev nD) : W4 m ρ c main_v7 = loRow m c := rfl
/-- The ends' slice. -/
theorem a8 (U : Valuation τ sig (Elt Ideal)) : StableHlo.after hostOps0_4 U main_v8 = extractStridedSlice S28 ![1] (show IVec S29 32 from U main_arg3) slices_S29_S28_1 := rfl
/-- The ends' filler. -/
theorem a8c (U : Valuation τ sig (Elt Ideal)) : StableHlo.after hostOps0_4 U main_c_1 = constantI S_ 32 12288#32 := rfl
/-- The ends, padded. -/
theorem a9 (U : Valuation τ sig (Elt Ideal)) : StableHlo.after hostOps0_5 U main_v9 =
    pad S32 ![0] ![4] ![0] (show IVec S28 32 from U main_v8) (show IVec S_ 32 from U main_c_1) pads_S28_S32_040 h_S_ := rfl
/-- The two rows, stacked. -/
theorem a12 (U : Valuation τ sig (Elt Ideal)) : StableHlo.after hostOps0_6 U main_v12 =
    concatenate S2x32 0 [⟨S1x32, broadcastInDim S1x32 ![1] bcast_S32_S1x32_1 (show IVec S32 32 from U main_v7)⟩, ⟨S1x32, broadcastInDim S1x32 ![1] bcast_S32_S1x32_1 (show IVec S32 32 from U main_v9)⟩]
      concatenates_S1x32_S1x32_S2x32_d0 := rfl
/-- The rows' filler. -/
theorem a12c (U : Valuation τ sig (Elt Ideal)) : StableHlo.after hostOps0_6 U main_c_2 = constantI S_ 32 0#32 := rfl
/-- The two rows, padded to eight. -/
theorem a13 (U : Valuation τ sig (Elt Ideal)) : StableHlo.after hostOps0_7 U main_v13 =
    pad S8x32 ![0, 0] ![6, 0] ![0, 0] (show IVec S2x32 32 from U main_v12) (show IVec S_ 32 from U main_c_2) pads_S2x32_S8x32_060_000 h_S_ := rfl

/-- The bounds' rows, as computed. -/
theorem v13_eq (c : Dev nD) : V8 m ρ c main_v13 = pad S8x32 ![0, 0] ![6, 0] ![0, 0]
      (concatenate S2x32 0 [⟨S1x32, broadcastInDim S1x32 ![1] bcast_S32_S1x32_1 (loRow m c)⟩,
        ⟨S1x32, broadcastInDim S1x32 ![1] bcast_S32_S1x32_1 (hiRow m c)⟩]
        concatenates_S1x32_S1x32_S2x32_d0) (constantI S_ 32 0#32) pads_S2x32_S8x32_060_000 h_S_ := by
  have h3 : W4 m ρ c main_arg3 = m ((c : Thread nD τ).loc main_arg3) := W4_args m ρ c main_arg3 (by decide)
  have h7 : W6 m ρ c main_v7 = loRow m c := (W6_of m ρ c main_v7 (by decide)).trans ((W5_of m ρ c main_v7 (by decide)).trans (a7 m ρ c))
  have h9 : W6 m ρ c main_v9 = hiRow m c := by
    refine (a9 (W5 m ρ c)).trans ?_
    rw [show W5 m ρ c main_v8 = _ from a8 (W4 m ρ c), show W5 m ρ c main_c_1 = _ from a8c (W4 m ρ c), h3]
    rfl
  refine (a13 (W7 m ρ c)).trans ?_
  rw [show W7 m ρ c main_v12 = _ from a12 (W6 m ρ c), show W7 m ρ c main_c_2 = _ from a12c (W6 m ρ c), h7, h9]

/-- The scales and zero points, as computed. -/
theorem v5_eq (c : Dev nD) : V8 m ρ c main_v5 =
      concatenate S2x28 0 [⟨S1x28, broadcastInDim S1x28 ![1] bcast_S28_S1x28_1 (show FVec Ideal S28 .f32 from m ((c : Thread nD τ).loc main_arg4))⟩,
        ⟨S1x28, broadcastInDim S1x28 ![1] bcast_S28_S1x28_1 (sitofp .f32 (show IVec S28 32 from m ((c : Thread nD τ).loc main_arg5)))⟩]
        concatenates_S1x28_S1x28_S2x28_d0 := rfl

/-- The weights' scales, as computed. -/
theorem v1_eq (c : Dev nD) : V8 m ρ c main_v1 = pad S32x4608 ![0, 0] ![4, 0] ![0, 0]
      (truncf .bf16 (show FVec Ideal S28x4608 .f32 from m ((c : Thread nD τ).loc main_arg7)) bitsLt_bf16_f32) (sitofp .bf16 (constantI S_ 32 0#32)) pads_S28x4608_S32x4608_040_000 h_S_ := rfl

/-- The cluster bounds, in order. -/
def bnd (c : Dev nD) (k : ℕ) : BitVec 32 := (show IVec S29 32 from m ((c : Thread nD τ).loc main_arg3)) (ix1 (⟨k % 29, Nat.mod_lt _ (by decide)⟩ : Fin 29))

/-- Row 0 holds the clusters' first channels. -/
theorem lo_at (c : Dev nD) (k : Fin 32) : (V8 m ρ c main_v13 : IVec S8x32 32) (ix2 0 k) = padded (bnd m c) k.val := by
  rw [v13_eq]
  pointwise [loRow, padded, bnd]
  by_cases h : k.val < 28
  · simp only [h, dite_true, if_true]
    exact congrArg (fun q : Fin 29 => (show IVec S29 32 from m ((c : Thread nD τ).loc main_arg3)) (ix1 q)) (Fin.ext (by show k.val = k.val % 29; omega))
  · simp only [h, dite_false, if_false]

/-- Row 1 holds the clusters' ends. -/
theorem hi_at (c : Dev nD) (k : Fin 32) : (V8 m ρ c main_v13 : IVec S8x32 32) (ix2 1 k) = padded (fun n => bnd m c (n + 1)) k.val := by
  rw [v13_eq]
  pointwise [hiRow, padded, bnd]
  by_cases h : k.val < 28
  · simp only [h, dite_true, if_true]
    exact congrArg (fun q : Fin 29 => (show IVec S29 32 from m ((c : Thread nD τ).loc main_arg3)) (ix1 q)) (Fin.ext (by show 1 + k.val = (k.val + 1) % 29; omega))
  · simp only [h, dite_false, if_false]

/-- Row 0 holds the scales. -/
theorem scale_at (c : Dev nD) (k : Fin 28) : (V8 m ρ c main_v5 : FVec Ideal S2x28 .f32) (ix2 0 k) = (show FVec Ideal S28 .f32 from m ((c : Thread nD τ).loc main_arg4)) (ix1 k) := by
  rw [v5_eq]
  pointwise

/-- Row 1 holds the zero points. -/
theorem zero_at (c : Dev nD) (k : Fin 28) : (V8 m ρ c main_v5 : FVec Ideal S2x28 .f32) (ix2 1 k)
    = FloatOps.sitofp (F := Ideal) .f32 ((show IVec S28 32 from m ((c : Thread nD τ).loc main_arg5)) (ix1 k)) := by
  rw [v5_eq]
  pointwise

/-- The clusters' rows hold the weight scales. -/
theorem ws_at (c : Dev nD) (k : Fin 28) (n : Fin 4608) : (V8 m ρ c main_v1 : FVec Ideal S32x4608 .bf16) (ix2 (⟨k.val, by omega⟩ : Fin 32) n)
    = (show FVec Ideal S28x4608 .f32 from m ((c : Thread nD τ).loc main_arg7)) (ix2 k n) := by
  rw [v1_eq]
  pointwise

end Cert.KernelIdeal.Gen
-- ==== Proof.Val.Tile.lean ====
/- One tile of the prep call: 128 of the weights' columns for 512 channels, from the packed weight codes and the scales. -/
module

public import proofs.«01_k».proof.Proof.Gen.KernelIdeal.Skeleton
public import proofs.«01_k».proof.Proof.Val.Spec
public import Idealize.ShloMosaic.Lib.BitcastFour

@[expose] public section
set_option maxRecDepth 16384
noncomputable section
namespace Cert.KernelIdeal.Gen
open Idealize.ShloMosaic Cert.Spec
open Cert.KernelIdeal.Facts₀ Cert.KernelIdeal.Facts

/-- The codes' words of a tile: lane `n` reads word `n / 2 + k`, shifted to its field. -/
def tileWords (k : BitVec 32) (w : IVec S128x128 32) : IVec S128x128 32 :=
  let i := addi k0_pay55 (broadcast S128x128 k)
  let i := select (cmpi .slt i (broadcast S128x128 0#32)) (addi i (broadcast S128x128 128#32)) i
  let x := dynamicGather 1 w (shapeCast S128x128 (shapeCast S128x128x1 i shapeCasts_S128x128_S128x128x1) shapeCasts_S128x128x1_S128x128)
  xori (andi (select k0_pay54 (shrui x (broadcast S128x128 4#32)) x) (broadcast S128x128 252645135#32)) (broadcast S128x128 134744072#32)

/-- The tile. -/
def tile (k : BitVec 32) (oh : FVec Ideal S512x32 .bf16) (w : IVec S128x128 32) (ws : Vec Ideal S32x128 .bf16) : FVec Ideal S512x128 .bf16 :=
  mulf (subf (sitofp .bf16 (bitcast S512x128 8 (tileWords k w) bitcasts_S128x128_w32_S512x128_w8)) (broadcast S512x128 (Scalar.ofBits (F := Ideal) .bf16 0x4100#16)))
    (truncf .bf16 (matmul dot_S512x32_S32x128_S512x128_1_0_0_1_n_n none oh (shapeCast S32x128 ws shapeCasts_S32x128_S32x128 : FVec Ideal S32x128 .bf16) (constant S512x128 .f32 0x00000000#32)) bitsLt_bf16_f32)

/-- The word's lane for a column. -/
theorem lane_at : ∀ n : Fin 128, ∀ h : Fin 2, (Scalar.select (IntOp.cmpi CmpIPredicate.slt (IntOp.addi (IntOp.shrsi ArithUnit.vector (BitVec.ofNat 32 n.val) 1#32) (BitVec.ofNat 32 (64 * h.val))) 0#32)
      (IntOp.addi (IntOp.addi (IntOp.shrsi ArithUnit.vector (BitVec.ofNat 32 n.val) 1#32) (BitVec.ofNat 32 (64 * h.val))) 128#32)
      (IntOp.addi (IntOp.shrsi ArithUnit.vector (BitVec.ofNat 32 n.val) 1#32) (BitVec.ofNat 32 (64 * h.val)))).toNat % 128 = n.val / 2 + 64 * h.val := by
  decide +kernel

/-- A column's parity as a bit. -/
theorem odd_at : ∀ n : Fin 128, IntOp.cmpi CmpIPredicate.eq (IntOp.andi (BitVec.ofNat 32 n.val) 1#32) 1#32 = BitVec.ofBool (n.val % 2 = 1) := by
  decide +kernel

/-- A column's word, shifted, masked and flipped. -/
theorem words_at (h : Fin 2) (w : IVec S128x128 32) (p : Fin 128) (n : Fin 128) (q : Fin 128) (hq : q.val = n.val / 2 + 64 * h.val) :
    tileWords (BitVec.ofNat 32 (64 * h.val)) w (ix2 p n) = ((if n.val % 2 = 1 then w (ix2 p q) >>> 4 else w (ix2 p q)) &&& 252645135#32) ^^^ 134744072#32 := by
  pointwise [tileWords, k0_pay54, k0_pay55]
  rw [odd_at]
  simp only [lane_at, ← hq]
  unfold Scalar.select
  by_cases hn : n.val % 2 = 1
  · simp [hn, IntOp.xori, IntOp.andi, IntOp.shrui]
  · simp [hn, IntOp.xori, IntOp.andi, IntOp.shrui]

/-- Byte `(r, n)` of the words' bytes is byte `r % 4` of word `(r / 4, n)`. -/
theorem byte_at (x : IVec S128x128 32) (r : Fin 512) (n : Fin 128) (p : Fin 128) (hp : p.val = r.val / 4) :
    bitcast S512x128 8 x bitcasts_S128x128_w32_S512x128_w8 (ix2 r n) = (x (ix2 p n)).extractLsb' (8 * (r.val % 4)) 8 := by
  apply BitVec.eq_of_getLsbD_eq
  intro i hi
  rw [bitcast_getLsbD x bitcasts_S128x128_w32_S512x128_w8 _ i hi (by decide)]
  have hr : S512x128.row (ix2 r n) = r.val := rfl
  have e : ∀ q, bitcasts_S128x128_w32_S512x128_w8.srcIdx (ix2 r n) ((S512x128.row (ix2 r n) * 8 + i) / 32) q = ix2 p n := by
    intro q
    funext c
    match c with
    | ⟨0, _⟩ => exact Fin.ext ((bitcasts_S128x128_w32_S512x128_w8.srcIdx_row _ _ _ ⟨0, Nat.zero_lt_two⟩ rfl).trans (by rw [hr]; refine Eq.trans ?_ hp.symm; omega))
    | ⟨1, _⟩ => exact Fin.ext (bitcasts_S128x128_w32_S512x128_w8.srcIdx_other _ _ _ ⟨1, Nat.one_lt_two⟩ (by show ¬ 1 + 2 = 2; omega))
  rw [e, hr, BitVec.getLsbD_extractLsb', show (r.val * 8 + i) % 32 = 8 * (r.val % 4) + i by omega]
  simp [hi]

/-- Masking a word's bytes to their low four bits and flipping bit 3 of each, at one byte of the word. -/
theorem mask_at (j : Fin 4) (w : BitVec 32) (b : BitVec 8) (hb : w.extractLsb' (8 * j.val) 8 = b) (P : Prop) [Decidable P] :
    (((if P then w >>> 4 else w) &&& 252645135#32) ^^^ 134744072#32).extractLsb' (8 * j.val) 8 = ((if P then b >>> 4 else b) &&& 15#8) ^^^ 8#8 := by
  subst hb
  have m : ∀ j : Fin 4, ∀ i : Fin 8, (252645135#32).getLsbD (8 * j.val + i.val) = (15#8).getLsbD i.val
      ∧ (134744072#32).getLsbD (8 * j.val + i.val) = (8#8).getLsbD i.val ∧ ((15#8).getLsbD i.val = true → i.val < 4) := by decide
  apply BitVec.eq_of_getLsbD_eq
  intro i hi
  obtain ⟨m1, m2, m3⟩ := m j ⟨i, hi⟩
  simp only at m1 m2 m3
  by_cases hP : P
  · simp only [hP, if_true, BitVec.getLsbD_extractLsb', BitVec.getLsbD_xor, BitVec.getLsbD_and, BitVec.getLsbD_ushiftRight, m1, m2, hi, decide_true, Bool.true_and]
    cases h15 : (15#8).getLsbD i
    · simp
    · have := m3 h15
      rw [show 4 + (8 * j.val + i) = 8 * j.val + (4 + i) by omega, show decide (4 + i < 8) = true by simp; omega]
      simp
  · simp [hP, BitVec.getLsbD_extractLsb', m1, m2, hi]

/-- A field of a byte, with its top bit flipped, is eight more than the signed field. -/
theorem field_at : ∀ (k : Fin 2) (b : BitVec 8), ((((if k.val = 1 then b >>> 4 else b) &&& 15#8) ^^^ 8#8).toInt : ℤ) - 8 = (b.extractLsb' (4 * k.val) 4).toInt := by
  decide +kernel

/-- The number eight. -/
theorem ofBits_eight : Ideal.ofBits .bf16 16640#16 = ((8 : ℝ) : EReal) := by
  simp [Ideal.ofBits, Ideal.ieee, -EReal.coe_mul]; norm_num

/-- A weight of the tile: its code times its scale. -/
theorem tile_at (h : Fin 2) (oh : FVec Ideal S512x32 .bf16) (v : Vec Ideal S512x2304 .i8) (o : ℕ) (ho : S128x2304.Slices ![0, o] S128x128) (ws : Vec Ideal S32x128 .bf16) (r : Fin 512) (n : Fin 128)
    (q : Fin 2304) (hq : q.val = o + n.val / 2 + 64 * h.val) :
    tile (BitVec.ofNat 32 (64 * h.val)) oh (extractStridedSlice S128x128 ![0, o] (k0_pay56 (F := Ideal) v) ho) ws (ix2 r n) =
      field (v (ix2 r q)) n.val * ∑ c, oh (ix2 r c) * ws (ix2 c n) := by
  pointwise [tile]
  refine congrArg (· * _) ?_
  have e : bitcast S512x128 8 (tileWords (BitVec.ofNat 32 (64 * h.val)) (extractStridedSlice S128x128 ![0, o] (k0_pay56 (F := Ideal) v) ho)) bitcasts_S128x128_w32_S512x128_w8 (ix2 r n)
      = (((if n.val % 2 = 1 then v (ix2 r q) >>> 4 else v (ix2 r q)) &&& 15#8) ^^^ 8#8) := by
    rw [byte_at _ r n ⟨r.val / 4, by omega⟩ rfl, words_at h _ _ n ⟨n.val / 2 + 64 * h.val, by omega⟩ rfl]
    refine mask_at ⟨r.val % 4, by omega⟩ _ _ ?_ _
    pointwise [k0_pay56]
    rw [show (⟨o + (n.val / 2 + 64 * h.val), by omega⟩ : Fin 2304) = q from Fin.ext (by show o + (n.val / 2 + 64 * h.val) = q.val; omega)]
    apply BitVec.eq_of_getLsbD_eq
    intro i hi
    rw [BitVec.getLsbD_extractLsb']
    refine (congrArg _ (bitcast_8_32_getLsbD_ix2 v _ ⟨r.val / 4, by omega⟩ q (8 * (r.val % 4) + i) (by omega) r (by simp only; omega))).trans ?_
    rw [show (8 * (r.val % 4) + i) % 8 = i by omega]
    simp only [hi, decide_true, Bool.true_and]
    rfl
  rw [e, ofBits_eight]
  have := field_at ⟨n.val % 2, by omega⟩ (v (ix2 r q))
  simp only [field]
  rw [← this]
  simp [FloatOps.sitofp]

end Cert.KernelIdeal.Gen
-- ==== Proof.Val.Tiles.lean ====
/- Each of the prep call's tiles: the stores' payloads, as the tile they hold. -/
module

public import proofs.«01_k».proof.Proof.Val.Tile

@[expose] public section
set_option maxRecDepth 16384
noncomputable section
namespace Cert.KernelIdeal.Gen
open Idealize.ShloMosaic Cert.Spec

/-- The value stored for the 128 columns from 4480 on is a tile. -/
theorem piece4480 (oh : FVec Ideal S512x32 .bf16) (v : Vec Ideal S512x2304 .i8) (w : Vec Ideal S32x128 .bf16) :
    k0_pay141 oh k0_pay54 k0_pay55 (k0_pay138 (k0_pay56 (F := Ideal) v)) w =
      tile (BitVec.ofNat 32 (64 * ((1 : Fin 2) : ℕ))) oh (extractStridedSlice S128x128 ![0, 2176] (k0_pay56 (F := Ideal) v) (by decide)) w := rfl

/-- The value stored for the 128 columns from 4352 on is a tile. -/
theorem piece4352 (oh : FVec Ideal S512x32 .bf16) (v : Vec Ideal S512x2304 .i8) (w : Vec Ideal S32x128 .bf16) :
    k0_pay140 oh (k0_pay139 k0_pay54 k0_pay55 (k0_pay56 (F := Ideal) v)) w =
      tile (BitVec.ofNat 32 (64 * ((0 : Fin 2) : ℕ))) oh (extractStridedSlice S128x128 ![0, 2176] (k0_pay56 (F := Ideal) v) (by decide)) w := rfl

/-- The value stored for the 128 columns from 4224 on is a tile. -/
theorem piece4224 (oh : FVec Ideal S512x32 .bf16) (v : Vec Ideal S512x2304 .i8) (w : Vec Ideal S32x128 .bf16) :
    k0_pay137 oh k0_pay54 k0_pay55 (k0_pay135 (k0_pay56 (F := Ideal) v)) (64#32) w =
      tile (BitVec.ofNat 32 (64 * ((1 : Fin 2) : ℕ))) oh (extractStridedSlice S128x128 ![0, 2048] (k0_pay56 (F := Ideal) v) (by decide)) w := rfl

/-- The value stored for the 128 columns from 4096 on is a tile. -/
theorem piece4096 (oh : FVec Ideal S512x32 .bf16) (v : Vec Ideal S512x2304 .i8) (w : Vec Ideal S32x128 .bf16) :
    k0_pay136 oh k0_pay54 k0_pay55 (k0_pay56 (F := Ideal) v) w =
      tile (BitVec.ofNat 32 (64 * ((0 : Fin 2) : ℕ))) oh (extractStridedSlice S128x128 ![0, 2048] (k0_pay56 (F := Ideal) v) (by decide)) w := rfl

/-- The value stored for the 128 columns from 3968 on is a tile. -/
theorem piece3968 (oh : FVec Ideal S512x32 .bf16) (v : Vec Ideal S512x2304 .i8) (w : Vec Ideal S32x128 .bf16) :
    k0_pay134 oh (k0_pay132 k0_pay54 k0_pay55 (k0_pay129 (k0_pay56 (F := Ideal) v))) k0_pay133 w =
      tile (BitVec.ofNat 32 (64 * ((1 : Fin 2) : ℕ))) oh (extractStridedSlice S128x128 ![0, 1920] (k0_pay56 (F := Ideal) v) (by decide)) w := rfl

/-- The value stored for the 128 columns from 3840 on is a tile. -/
theorem piece3840 (oh : FVec Ideal S512x32 .bf16) (v : Vec Ideal S512x2304 .i8) (w : Vec Ideal S32x128 .bf16) :
    k0_pay131 oh k0_pay54 k0_pay55 (k0_pay129 (k0_pay56 (F := Ideal) v)) k0_pay130 w =
      tile (BitVec.ofNat 32 (64 * ((0 : Fin 2) : ℕ))) oh (extractStridedSlice S128x128 ![0, 1920] (k0_pay56 (F := Ideal) v) (by decide)) w := rfl

/-- The value stored for the 128 columns from 3712 on is a tile. -/
theorem piece3712 (oh : FVec Ideal S512x32 .bf16) (v : Vec Ideal S512x2304 .i8) (w : Vec Ideal S32x128 .bf16) :
    k0_pay128 oh k0_pay54 k0_pay55 (k0_pay125 (k0_pay56 (F := Ideal) v)) w =
      tile (BitVec.ofNat 32 (64 * ((1 : Fin 2) : ℕ))) oh (extractStridedSlice S128x128 ![0, 1792] (k0_pay56 (F := Ideal) v) (by decide)) w := rfl

/-- The value stored for the 128 columns from 3584 on is a tile. -/
theorem piece3584 (oh : FVec Ideal S512x32 .bf16) (v : Vec Ideal S512x2304 .i8) (w : Vec Ideal S32x128 .bf16) :
    k0_pay127 oh (k0_pay126 k0_pay54 k0_pay55 (k0_pay56 (F := Ideal) v)) w =
      tile (BitVec.ofNat 32 (64 * ((0 : Fin 2) : ℕ))) oh (extractStridedSlice S128x128 ![0, 1792] (k0_pay56 (F := Ideal) v) (by decide)) w := rfl

/-- The value stored for the 128 columns from 3456 on is a tile. -/
theorem piece3456 (oh : FVec Ideal S512x32 .bf16) (v : Vec Ideal S512x2304 .i8) (w : Vec Ideal S32x128 .bf16) :
    k0_pay124 oh k0_pay54 (k0_pay121 (k0_pay56 (F := Ideal) v)) (k0_pay123 k0_pay55) (0#32) w =
      tile (BitVec.ofNat 32 (64 * ((1 : Fin 2) : ℕ))) oh (extractStridedSlice S128x128 ![0, 1664] (k0_pay56 (F := Ideal) v) (by decide)) w := rfl

/-- The value stored for the 128 columns from 3328 on is a tile. -/
theorem piece3328 (oh : FVec Ideal S512x32 .bf16) (v : Vec Ideal S512x2304 .i8) (w : Vec Ideal S32x128 .bf16) :
    k0_pay122 oh k0_pay54 k0_pay55 (k0_pay56 (F := Ideal) v) w =
      tile (BitVec.ofNat 32 (64 * ((0 : Fin 2) : ℕ))) oh (extractStridedSlice S128x128 ![0, 1664] (k0_pay56 (F := Ideal) v) (by decide)) w := rfl

/-- The value stored for the 128 columns from 3200 on is a tile. -/
theorem piece3200 (oh : FVec Ideal S512x32 .bf16) (v : Vec Ideal S512x2304 .i8) (w : Vec Ideal S32x128 .bf16) :
    k0_pay120 oh (k0_pay119 k0_pay54 k0_pay55 (k0_pay115 (k0_pay56 (F := Ideal) v))) w =
      tile (BitVec.ofNat 32 (64 * ((1 : Fin 2) : ℕ))) oh (extractStridedSlice S128x128 ![0, 1536] (k0_pay56 (F := Ideal) v) (by decide)) w := rfl

/-- The value stored for the 128 columns from 3072 on is a tile. -/
theorem piece3072 (oh : FVec Ideal S512x32 .bf16) (v : Vec Ideal S512x2304 .i8) (w : Vec Ideal S32x128 .bf16) :
    k0_pay118 oh k0_pay54 (k0_pay115 (k0_pay56 (F := Ideal) v)) (k0_pay116 k0_pay55) k0_pay117 w =
      tile (BitVec.ofNat 32 (64 * ((0 : Fin 2) : ℕ))) oh (extractStridedSlice S128x128 ![0, 1536] (k0_pay56 (F := Ideal) v) (by decide)) w := rfl

/-- The value stored for the 128 columns from 2944 on is a tile. -/
theorem piece2944 (oh : FVec Ideal S512x32 .bf16) (v : Vec Ideal S512x2304 .i8) (w : Vec Ideal S32x128 .bf16) :
    k0_pay114 oh k0_pay54 k0_pay55 (k0_pay111 (k0_pay56 (F := Ideal) v)) w =
      tile (BitVec.ofNat 32 (64 * ((1 : Fin 2) : ℕ))) oh (extractStridedSlice S128x128 ![0, 1408] (k0_pay56 (F := Ideal) v) (by decide)) w := rfl

/-- The value stored for the 128 columns from 2816 on is a tile. -/
theorem piece2816 (oh : FVec Ideal S512x32 .bf16) (v : Vec Ideal S512x2304 .i8) (w : Vec Ideal S32x128 .bf16) :
    k0_pay113 oh (k0_pay112 k0_pay54 k0_pay55 (k0_pay56 (F := Ideal) v)) (FloatOps.ofBits FTy.bf16 16640#16) w =
      tile (BitVec.ofNat 32 (64 * ((0 : Fin 2) : ℕ))) oh (extractStridedSlice S128x128 ![0, 1408] (k0_pay56 (F := Ideal) v) (by decide)) w := rfl

/-- The value stored for the 128 columns from 2688 on is a tile. -/
theorem piece2688 (oh : FVec Ideal S512x32 .bf16) (v : Vec Ideal S512x2304 .i8) (w : Vec Ideal S32x128 .bf16) :
    k0_pay110 oh k0_pay54 (k0_pay106 (k0_pay56 (F := Ideal) v)) (k0_pay108 k0_pay55) (k0_pay109 k0_pay55) (128#32) w =
      tile (BitVec.ofNat 32 (64 * ((1 : Fin 2) : ℕ))) oh (extractStridedSlice S128x128 ![0, 1280] (k0_pay56 (F := Ideal) v) (by decide)) w := rfl

/-- The value stored for the 128 columns from 2560 on is a tile. -/
theorem piece2560 (oh : FVec Ideal S512x32 .bf16) (v : Vec Ideal S512x2304 .i8) (w : Vec Ideal S32x128 .bf16) :
    k0_pay107 oh k0_pay54 k0_pay55 (k0_pay56 (F := Ideal) v) w =
      tile (BitVec.ofNat 32 (64 * ((0 : Fin 2) : ℕ))) oh (extractStridedSlice S128x128 ![0, 1280] (k0_pay56 (F := Ideal) v) (by decide)) w := rfl

/-- The value stored for the 128 columns from 2432 on is a tile. -/
theorem piece2432 (oh : FVec Ideal S512x32 .bf16) (v : Vec Ideal S512x2304 .i8) (w : Vec Ideal S32x128 .bf16) :
    k0_pay105 oh (k0_pay104 k0_pay54 k0_pay55 (k0_pay99 (k0_pay56 (F := Ideal) v))) w =
      tile (BitVec.ofNat 32 (64 * ((1 : Fin 2) : ℕ))) oh (extractStridedSlice S128x128 ![0, 1152] (k0_pay56 (F := Ideal) v) (by decide)) w := rfl

/-- The value stored for the 128 columns from 2304 on is a tile. -/
theorem piece2304 (oh : FVec Ideal S512x32 .bf16) (v : Vec Ideal S512x2304 .i8) (w : Vec Ideal S32x128 .bf16) :
    k0_pay103 oh k0_pay54 (k0_pay99 (k0_pay56 (F := Ideal) v)) (k0_pay100 k0_pay55) (k0_pay101 k0_pay55) k0_pay102 w =
      tile (BitVec.ofNat 32 (64 * ((0 : Fin 2) : ℕ))) oh (extractStridedSlice S128x128 ![0, 1152] (k0_pay56 (F := Ideal) v) (by decide)) w := rfl

/-- The value stored for the 128 columns from 2176 on is a tile. -/
theorem piece2176 (oh : FVec Ideal S512x32 .bf16) (v : Vec Ideal S512x2304 .i8) (w : Vec Ideal S32x128 .bf16) :
    k0_pay98 oh k0_pay54 k0_pay55 (k0_pay95 (k0_pay56 (F := Ideal) v)) w =
      tile (BitVec.ofNat 32 (64 * ((1 : Fin 2) : ℕ))) oh (extractStridedSlice S128x128 ![0, 1024] (k0_pay56 (F := Ideal) v) (by decide)) w := rfl

/-- The value stored for the 128 columns from 2048 on is a tile. -/
theorem piece2048 (oh : FVec Ideal S512x32 .bf16) (v : Vec Ideal S512x2304 .i8) (w : Vec Ideal S32x128 .bf16) :
    k0_pay97 oh (k0_pay96 k0_pay54 k0_pay55 (k0_pay56 (F := Ideal) v)) w =
      tile (BitVec.ofNat 32 (64 * ((0 : Fin 2) : ℕ))) oh (extractStridedSlice S128x128 ![0, 1024] (k0_pay56 (F := Ideal) v) (by decide)) w := rfl

/-- The value stored for the 128 columns from 1920 on is a tile. -/
theorem piece1920 (oh : FVec Ideal S512x32 .bf16) (v : Vec Ideal S512x2304 .i8) (w : Vec Ideal S32x128 .bf16) :
    k0_pay94 oh k0_pay54 (k0_pay91 (k0_pay56 (F := Ideal) v)) (k0_pay93 k0_pay55) w =
      tile (BitVec.ofNat 32 (64 * ((1 : Fin 2) : ℕ))) oh (extractStridedSlice S128x128 ![0, 896] (k0_pay56 (F := Ideal) v) (by decide)) w := rfl

/-- The value stored for the 128 columns from 1792 on is a tile. -/
theorem piece1792 (oh : FVec Ideal S512x32 .bf16) (v : Vec Ideal S512x2304 .i8) (w : Vec Ideal S32x128 .bf16) :
    k0_pay92 oh k0_pay54 k0_pay55 (k0_pay56 (F := Ideal) v) w =
      tile (BitVec.ofNat 32 (64 * ((0 : Fin 2) : ℕ))) oh (extractStridedSlice S128x128 ![0, 896] (k0_pay56 (F := Ideal) v) (by decide)) w := rfl

/-- The value stored for the 128 columns from 1664 on is a tile. -/
theorem piece1664 (oh : FVec Ideal S512x32 .bf16) (v : Vec Ideal S512x2304 .i8) (w : Vec Ideal S32x128 .bf16) :
    k0_pay90 oh (k0_pay89 k0_pay54 k0_pay55 (k0_pay86 (k0_pay56 (F := Ideal) v))) w =
      tile (BitVec.ofNat 32 (64 * ((1 : Fin 2) : ℕ))) oh (extractStridedSlice S128x128 ![0, 768] (k0_pay56 (F := Ideal) v) (by decide)) w := rfl

/-- The value stored for the 128 columns from 1536 on is a tile. -/
theorem piece1536 (oh : FVec Ideal S512x32 .bf16) (v : Vec Ideal S512x2304 .i8) (w : Vec Ideal S32x128 .bf16) :
    k0_pay88 oh k0_pay54 (k0_pay86 (k0_pay56 (F := Ideal) v)) (k0_pay87 k0_pay55) w =
      tile (BitVec.ofNat 32 (64 * ((0 : Fin 2) : ℕ))) oh (extractStridedSlice S128x128 ![0, 768] (k0_pay56 (F := Ideal) v) (by decide)) w := rfl

/-- The value stored for the 128 columns from 1408 on is a tile. -/
theorem piece1408 (oh : FVec Ideal S512x32 .bf16) (v : Vec Ideal S512x2304 .i8) (w : Vec Ideal S32x128 .bf16) :
    k0_pay85 oh k0_pay54 k0_pay55 (k0_pay81 (k0_pay56 (F := Ideal) v)) w =
      tile (BitVec.ofNat 32 (64 * ((1 : Fin 2) : ℕ))) oh (extractStridedSlice S128x128 ![0, 640] (k0_pay56 (F := Ideal) v) (by decide)) w := rfl

/-- The value stored for the 128 columns from 1280 on is a tile. -/
theorem piece1280 (oh : FVec Ideal S512x32 .bf16) (v : Vec Ideal S512x2304 .i8) (w : Vec Ideal S32x128 .bf16) :
    k0_pay84 oh (k0_pay82 k0_pay54 k0_pay55 (k0_pay56 (F := Ideal) v)) (k0_pay83 w) =
      tile (BitVec.ofNat 32 (64 * ((0 : Fin 2) : ℕ))) oh (extractStridedSlice S128x128 ![0, 640] (k0_pay56 (F := Ideal) v) (by decide)) w := rfl

/-- The value stored for the 128 columns from 1152 on is a tile. -/
theorem piece1152 (oh : FVec Ideal S512x32 .bf16) (v : Vec Ideal S512x2304 .i8) (w : Vec Ideal S32x128 .bf16) :
    k0_pay80 oh k0_pay54 (k0_pay79 k0_pay55 (k0_pay56 (F := Ideal) v)) w =
      tile (BitVec.ofNat 32 (64 * ((1 : Fin 2) : ℕ))) oh (extractStridedSlice S128x128 ![0, 512] (k0_pay56 (F := Ideal) v) (by decide)) w := rfl

/-- The value stored for the 128 columns from 1024 on is a tile. -/
theorem piece1024 (oh : FVec Ideal S512x32 .bf16) (v : Vec Ideal S512x2304 .i8) (w : Vec Ideal S32x128 .bf16) :
    k0_pay78 oh k0_pay54 k0_pay55 (k0_pay56 (F := Ideal) v) w =
      tile (BitVec.ofNat 32 (64 * ((0 : Fin 2) : ℕ))) oh (extractStridedSlice S128x128 ![0, 512] (k0_pay56 (F := Ideal) v) (by decide)) w := rfl

/-- The value stored for the 128 columns from 896 on is a tile. -/
theorem piece896 (oh : FVec Ideal S512x32 .bf16) (v : Vec Ideal S512x2304 .i8) (w : Vec Ideal S32x128 .bf16) :
    k0_pay76 (k0_pay74 k0_pay54 k0_pay55 (k0_pay71 (k0_pay56 (F := Ideal) v))) (k0_pay75 oh w)  =
      tile (BitVec.ofNat 32 (64 * ((1 : Fin 2) : ℕ))) oh (extractStridedSlice S128x128 ![0, 384] (k0_pay56 (F := Ideal) v) (by decide)) w := rfl

/-- The value stored for the 128 columns from 768 on is a tile. -/
theorem piece768 (oh : FVec Ideal S512x32 .bf16) (v : Vec Ideal S512x2304 .i8) (w : Vec Ideal S32x128 .bf16) :
    k0_pay73 oh k0_pay54 (k0_pay72 k0_pay55 (k0_pay56 (F := Ideal) v)) (4#32) w =
      tile (BitVec.ofNat 32 (64 * ((0 : Fin 2) : ℕ))) oh (extractStridedSlice S128x128 ![0, 384] (k0_pay56 (F := Ideal) v) (by decide)) w := rfl

/-- The value stored for the 128 columns from 640 on is a tile. -/
theorem piece640 (oh : FVec Ideal S512x32 .bf16) (v : Vec Ideal S512x2304 .i8) (w : Vec Ideal S32x128 .bf16) :
    k0_pay70 oh k0_pay54 k0_pay55 (k0_pay66 (k0_pay56 (F := Ideal) v)) w =
      tile (BitVec.ofNat 32 (64 * ((1 : Fin 2) : ℕ))) oh (extractStridedSlice S128x128 ![0, 256] (k0_pay56 (F := Ideal) v) (by decide)) w := rfl

/-- The value stored for the 128 columns from 512 on is a tile. -/
theorem piece512 (oh : FVec Ideal S512x32 .bf16) (v : Vec Ideal S512x2304 .i8) (w : Vec Ideal S32x128 .bf16) :
    k0_pay69 (k0_pay67 k0_pay54 k0_pay55 (k0_pay56 (F := Ideal) v)) (k0_pay68 oh w)  =
      tile (BitVec.ofNat 32 (64 * ((0 : Fin 2) : ℕ))) oh (extractStridedSlice S128x128 ![0, 256] (k0_pay56 (F := Ideal) v) (by decide)) w := rfl

/-- The value stored for the 128 columns from 384 on is a tile. -/
theorem piece384 (oh : FVec Ideal S512x32 .bf16) (v : Vec Ideal S512x2304 .i8) (w : Vec Ideal S32x128 .bf16) :
    k0_pay65 oh k0_pay54 (k0_pay63 k0_pay55 (k0_pay56 (F := Ideal) v)) (k0_pay64 k0_pay55 (k0_pay56 (F := Ideal) v)) w =
      tile (BitVec.ofNat 32 (64 * ((1 : Fin 2) : ℕ))) oh (extractStridedSlice S128x128 ![0, 128] (k0_pay56 (F := Ideal) v) (by decide)) w := rfl

/-- The value stored for the 128 columns from 256 on is a tile. -/
theorem piece256 (oh : FVec Ideal S512x32 .bf16) (v : Vec Ideal S512x2304 .i8) (w : Vec Ideal S32x128 .bf16) :
    k0_pay62 oh k0_pay54 k0_pay55 (k0_pay56 (F := Ideal) v) w =
      tile (BitVec.ofNat 32 (64 * ((0 : Fin 2) : ℕ))) oh (extractStridedSlice S128x128 ![0, 128] (k0_pay56 (F := Ideal) v) (by decide)) w := rfl

/-- The value stored for the 128 columns from 128 on is a tile. -/
theorem piece128 (oh : FVec Ideal S512x32 .bf16) (v : Vec Ideal S512x2304 .i8) (w : Vec Ideal S32x128 .bf16) :
    k0_pay60 oh k0_pay54 k0_pay55 (k0_pay57 v) w =
      tile (BitVec.ofNat 32 (64 * ((1 : Fin 2) : ℕ))) oh (extractStridedSlice S128x128 ![0, 0] (k0_pay56 (F := Ideal) v) (by decide)) w := rfl

/-- The value stored for the 128 columns from 0 on is a tile. -/
theorem piece0 (oh : FVec Ideal S512x32 .bf16) (v : Vec Ideal S512x2304 .i8) (w : Vec Ideal S32x128 .bf16) :
    k0_pay59 oh (k0_pay58 v) w =
      tile (BitVec.ofNat 32 (64 * ((0 : Fin 2) : ℕ))) oh (extractStridedSlice S128x128 ![0, 0] (k0_pay56 (F := Ideal) v) (by decide)) w := rfl

end Cert.KernelIdeal.Gen
-- ==== Proof.Val.PrepWd.lean ====
/- The prep call's block of weights, at an element. -/
module
public import proofs.«01_k».proof.Proof.RunIdeal.Region0
public import proofs.«01_k».proof.Proof.Val.Tiles
public import proofs.«01_k».proof.Proof.Val.Cluster
public import Idealize.ShloMosaic.Lib.Pipeline.ValueKit

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The ones and zeros, at an element: whether channel `r` of the block lies in cluster `k`. -/
theorem hot_at (a : BitVec 32) (lo hi : Vec Ideal S1x32 .i32) (r : Fin 512) (k : Fin 32) :
    k0_pay53 (F := Ideal) a lo hi (ix2 r k) = hot (a + BitVec.ofNat 32 r.val) (lo (ix2 0 k)) (hi (ix2 0 k)) := by
  pointwise [k0_pay53]
  rfl

/-- A tile at an index of the block it lies in. -/
theorem tile_in (h : Fin 2) (oh : FVec Ideal S512x32 .bf16) (v : Vec Ideal S512x2304 .i8) (o : ℕ) (ho : S128x2304.Slices ![0, o] S128x128) (ws : Vec Ideal S32x4608 .bf16)
    (w : Vec Ideal S32x128 .bf16) (x : S512x128.Idx) (y : S512x4608.Idx) (h0 : (y 0 : ℕ) = x 0) (h1 : (y 1 : ℕ) = (2 * o + 128 * h.val) + x 1)
    (hw : ∀ k : Fin 32, ∀ n : Fin 128, (n : ℕ) = x 1 → w (ix2 k n) = ws (ix2 k (y 1))) :
    tile (BitVec.ofNat 32 (64 * h.val)) oh (extractStridedSlice S128x128 ![0, o] (k0_pay56 (F := Ideal) v) ho) w x =
      field (v (ix2 (y 0) ⟨(y 1 : ℕ) / 2, by have : (y 1 : ℕ) < 4608 := (y 1).isLt; omega⟩)) (y 1) * ∑ k, oh (ix2 (y 0) k) * ws (ix2 k (y 1)) := by
  obtain ⟨r, n, rfl⟩ : ∃ (r : Fin 512) (n : Fin 128), x = ix2 r n := ⟨x 0, x 1, by funext a; match a with | ⟨0, _⟩ => rfl | ⟨1, _⟩ => rfl⟩
  have e0 : (y 0 : Fin 512) = r := Fin.ext h0
  have e1 : (y 1 : ℕ) = 2 * o + 128 * h.val + n.val := h1
  have hy : (y 1 : ℕ) < 4608 := (y 1).isLt
  rw [tile_at h oh v o ho w r n ⟨(y 1 : ℕ) / 2, by omega⟩ (by show (y 1 : ℕ) / 2 = _; omega), e0]
  have ef : ∀ b, field b n.val = field b (y 1) := fun b => by unfold field; rw [show n.val % 2 = (y 1 : ℕ) % 2 by omega]
  rw [ef]
  exact congrArg _ (Finset.sum_congr rfl fun k _ => by rw [hw k n rfl])

set_option maxHeartbeats 2000000 in
/-- A weight of the block: its code times its cluster's scale, the cluster picked by the ones and zeros. -/
theorem wd_at (c : Dev nD) (t : Fin cfg0.N) (y : S512x4608.Idx) : (outsAt0 V c t).1 y =
    field (iblk0 V c 4 t (ix2 (y 0) ⟨(y 1 : ℕ) / 2, by have : (y 1 : ℕ) < 4608 := (y 1).isLt; omega⟩)) (y 1) *
      ∑ k : Fin 32, k0_pay53 (F := Ideal) (Scalar.muli (BitVec.ofNat 32 ↑(grid0.coords t 0)) 512#32)
        (View.ld (iblk0 V c 1 t) (Rect.unit ![0, 0] ![1, 32] inb_S8x32_S1x32_0_0))
        (View.ld (iblk0 V c 1 t) (Rect.unit ![1, 0] ![1, 32] inb_S8x32_S1x32_1_0)) (ix2 (y 0) k) * iblk0 V c 3 t (ix2 k (y 1)) := by
  unfold outsAt0
  frame_out
  canon_tiles x h
  case piece0 =>
    rw [piece4480]
    refine tile_in 1 _ _ 2176 (by decide) _ _ x y h0 h1 ?_
    intro k n hn
    pointwise
    exact congrArg (fun j : Fin 4608 => iblk0 V c 3 t (ix2 k j)) (Fin.ext ((congrArg (_ + ·) hn).trans h1.symm))
  case piece1 =>
    rw [piece4352]
    refine tile_in 0 _ _ 2176 (by decide) _ _ x y h0 h1 ?_
    intro k n hn
    pointwise
    exact congrArg (fun j : Fin 4608 => iblk0 V c 3 t (ix2 k j)) (Fin.ext ((congrArg (_ + ·) hn).trans h1.symm))
  case piece2 =>
    rw [piece4224]
    refine tile_in 1 _ _ 2048 (by decide) _ _ x y h0 h1 ?_
    intro k n hn
    pointwise
    exact congrArg (fun j : Fin 4608 => iblk0 V c 3 t (ix2 k j)) (Fin.ext ((congrArg (_ + ·) hn).trans h1.symm))
  case piece3 =>
    rw [piece4096]
    refine tile_in 0 _ _ 2048 (by decide) _ _ x y h0 h1 ?_
    intro k n hn
    pointwise
    exact congrArg (fun j : Fin 4608 => iblk0 V c 3 t (ix2 k j)) (Fin.ext ((congrArg (_ + ·) hn).trans h1.symm))
  case piece4 =>
    rw [piece3968]
    refine tile_in 1 _ _ 1920 (by decide) _ _ x y h0 h1 ?_
    intro k n hn
    pointwise
    exact congrArg (fun j : Fin 4608 => iblk0 V c 3 t (ix2 k j)) (Fin.ext ((congrArg (_ + ·) hn).trans h1.symm))
  case piece5 =>
    rw [piece3840]
    refine tile_in 0 _ _ 1920 (by decide) _ _ x y h0 h1 ?_
    intro k n hn
    pointwise
    exact congrArg (fun j : Fin 4608 => iblk0 V c 3 t (ix2 k j)) (Fin.ext ((congrArg (_ + ·) hn).trans h1.symm))
  case piece6 =>
    rw [piece3712]
    refine tile_in 1 _ _ 1792 (by decide) _ _ x y h0 h1 ?_
    intro k n hn
    pointwise
    exact congrArg (fun j : Fin 4608 => iblk0 V c 3 t (ix2 k j)) (Fin.ext ((congrArg (_ + ·) hn).trans h1.symm))
  case piece7 =>
    rw [piece3584]
    refine tile_in 0 _ _ 1792 (by decide) _ _ x y h0 h1 ?_
    intro k n hn
    pointwise
    exact congrArg (fun j : Fin 4608 => iblk0 V c 3 t (ix2 k j)) (Fin.ext ((congrArg (_ + ·) hn).trans h1.symm))
  case piece8 =>
    rw [piece3456]
    refine tile_in 1 _ _ 1664 (by decide) _ _ x y h0 h1 ?_
    intro k n hn
    pointwise
    exact congrArg (fun j : Fin 4608 => iblk0 V c 3 t (ix2 k j)) (Fin.ext ((congrArg (_ + ·) hn).trans h1.symm))
  case piece9 =>
    rw [piece3328]
    refine tile_in 0 _ _ 1664 (by decide) _ _ x y h0 h1 ?_
    intro k n hn
    pointwise
    exact congrArg (fun j : Fin 4608 => iblk0 V c 3 t (ix2 k j)) (Fin.ext ((congrArg (_ + ·) hn).trans h1.symm))
  case piece10 =>
    rw [piece3200]
    refine tile_in 1 _ _ 1536 (by decide) _ _ x y h0 h1 ?_
    intro k n hn
    pointwise
    exact congrArg (fun j : Fin 4608 => iblk0 V c 3 t (ix2 k j)) (Fin.ext ((congrArg (_ + ·) hn).trans h1.symm))
  case piece11 =>
    rw [piece3072]
    refine tile_in 0 _ _ 1536 (by decide) _ _ x y h0 h1 ?_
    intro k n hn
    pointwise
    exact congrArg (fun j : Fin 4608 => iblk0 V c 3 t (ix2 k j)) (Fin.ext ((congrArg (_ + ·) hn).trans h1.symm))
  case piece12 =>
    rw [piece2944]
    refine tile_in 1 _ _ 1408 (by decide) _ _ x y h0 h1 ?_
    intro k n hn
    pointwise
    exact congrArg (fun j : Fin 4608 => iblk0 V c 3 t (ix2 k j)) (Fin.ext ((congrArg (_ + ·) hn).trans h1.symm))
  case piece13 =>
    rw [piece2816]
    refine tile_in 0 _ _ 1408 (by decide) _ _ x y h0 h1 ?_
    intro k n hn
    pointwise
    exact congrArg (fun j : Fin 4608 => iblk0 V c 3 t (ix2 k j)) (Fin.ext ((congrArg (_ + ·) hn).trans h1.symm))
  case piece14 =>
    rw [piece2688]
    refine tile_in 1 _ _ 1280 (by decide) _ _ x y h0 h1 ?_
    intro k n hn
    pointwise
    exact congrArg (fun j : Fin 4608 => iblk0 V c 3 t (ix2 k j)) (Fin.ext ((congrArg (_ + ·) hn).trans h1.symm))
  case piece15 =>
    rw [piece2560]
    refine tile_in 0 _ _ 1280 (by decide) _ _ x y h0 h1 ?_
    intro k n hn
    pointwise
    exact congrArg (fun j : Fin 4608 => iblk0 V c 3 t (ix2 k j)) (Fin.ext ((congrArg (_ + ·) hn).trans h1.symm))
  case piece16 =>
    rw [piece2432]
    refine tile_in 1 _ _ 1152 (by decide) _ _ x y h0 h1 ?_
    intro k n hn
    pointwise
    exact congrArg (fun j : Fin 4608 => iblk0 V c 3 t (ix2 k j)) (Fin.ext ((congrArg (_ + ·) hn).trans h1.symm))
  case piece17 =>
    rw [piece2304]
    refine tile_in 0 _ _ 1152 (by decide) _ _ x y h0 h1 ?_
    intro k n hn
    pointwise
    exact congrArg (fun j : Fin 4608 => iblk0 V c 3 t (ix2 k j)) (Fin.ext ((congrArg (_ + ·) hn).trans h1.symm))
  case piece18 =>
    rw [piece2176]
    refine tile_in 1 _ _ 1024 (by decide) _ _ x y h0 h1 ?_
    intro k n hn
    pointwise
    exact congrArg (fun j : Fin 4608 => iblk0 V c 3 t (ix2 k j)) (Fin.ext ((congrArg (_ + ·) hn).trans h1.symm))
  case piece19 =>
    rw [piece2048]
    refine tile_in 0 _ _ 1024 (by decide) _ _ x y h0 h1 ?_
    intro k n hn
    pointwise
    exact congrArg (fun j : Fin 4608 => iblk0 V c 3 t (ix2 k j)) (Fin.ext ((congrArg (_ + ·) hn).trans h1.symm))
  case piece20 =>
    rw [piece1920]
    refine tile_in 1 _ _ 896 (by decide) _ _ x y h0 h1 ?_
    intro k n hn
    pointwise
    exact congrArg (fun j : Fin 4608 => iblk0 V c 3 t (ix2 k j)) (Fin.ext ((congrArg (_ + ·) hn).trans h1.symm))
  case piece21 =>
    rw [piece1792]
    refine tile_in 0 _ _ 896 (by decide) _ _ x y h0 h1 ?_
    intro k n hn
    pointwise
    exact congrArg (fun j : Fin 4608 => iblk0 V c 3 t (ix2 k j)) (Fin.ext ((congrArg (_ + ·) hn).trans h1.symm))
  case piece22 =>
    rw [piece1664]
    refine tile_in 1 _ _ 768 (by decide) _ _ x y h0 h1 ?_
    intro k n hn
    pointwise
    exact congrArg (fun j : Fin 4608 => iblk0 V c 3 t (ix2 k j)) (Fin.ext ((congrArg (_ + ·) hn).trans h1.symm))
  case piece23 =>
    rw [piece1536]
    refine tile_in 0 _ _ 768 (by decide) _ _ x y h0 h1 ?_
    intro k n hn
    pointwise
    exact congrArg (fun j : Fin 4608 => iblk0 V c 3 t (ix2 k j)) (Fin.ext ((congrArg (_ + ·) hn).trans h1.symm))
  case piece24 =>
    rw [piece1408]
    refine tile_in 1 _ _ 640 (by decide) _ _ x y h0 h1 ?_
    intro k n hn
    pointwise
    exact congrArg (fun j : Fin 4608 => iblk0 V c 3 t (ix2 k j)) (Fin.ext ((congrArg (_ + ·) hn).trans h1.symm))
  case piece25 =>
    rw [piece1280]
    refine tile_in 0 _ _ 640 (by decide) _ _ x y h0 h1 ?_
    intro k n hn
    pointwise
    exact congrArg (fun j : Fin 4608 => iblk0 V c 3 t (ix2 k j)) (Fin.ext ((congrArg (_ + ·) hn).trans h1.symm))
  case piece26 =>
    rw [piece1152]
    refine tile_in 1 _ _ 512 (by decide) _ _ x y h0 h1 ?_
    intro k n hn
    pointwise
    exact congrArg (fun j : Fin 4608 => iblk0 V c 3 t (ix2 k j)) (Fin.ext ((congrArg (_ + ·) hn).trans h1.symm))
  case piece27 =>
    rw [piece1024]
    refine tile_in 0 _ _ 512 (by decide) _ _ x y h0 h1 ?_
    intro k n hn
    pointwise
    exact congrArg (fun j : Fin 4608 => iblk0 V c 3 t (ix2 k j)) (Fin.ext ((congrArg (_ + ·) hn).trans h1.symm))
  case piece28 =>
    rw [piece896]
    refine tile_in 1 _ _ 384 (by decide) _ _ x y h0 h1 ?_
    intro k n hn
    pointwise
    exact congrArg (fun j : Fin 4608 => iblk0 V c 3 t (ix2 k j)) (Fin.ext ((congrArg (_ + ·) hn).trans h1.symm))
  case piece29 =>
    rw [piece768]
    refine tile_in 0 _ _ 384 (by decide) _ _ x y h0 h1 ?_
    intro k n hn
    pointwise
    exact congrArg (fun j : Fin 4608 => iblk0 V c 3 t (ix2 k j)) (Fin.ext ((congrArg (_ + ·) hn).trans h1.symm))
  case piece30 =>
    rw [piece640]
    refine tile_in 1 _ _ 256 (by decide) _ _ x y h0 h1 ?_
    intro k n hn
    pointwise
    exact congrArg (fun j : Fin 4608 => iblk0 V c 3 t (ix2 k j)) (Fin.ext ((congrArg (_ + ·) hn).trans h1.symm))
  case piece31 =>
    rw [piece512]
    refine tile_in 0 _ _ 256 (by decide) _ _ x y h0 h1 ?_
    intro k n hn
    pointwise
    exact congrArg (fun j : Fin 4608 => iblk0 V c 3 t (ix2 k j)) (Fin.ext ((congrArg (_ + ·) hn).trans h1.symm))
  case piece32 =>
    rw [piece384]
    refine tile_in 1 _ _ 128 (by decide) _ _ x y h0 h1 ?_
    intro k n hn
    pointwise
    exact congrArg (fun j : Fin 4608 => iblk0 V c 3 t (ix2 k j)) (Fin.ext ((congrArg (_ + ·) hn).trans h1.symm))
  case piece33 =>
    rw [piece256]
    refine tile_in 0 _ _ 128 (by decide) _ _ x y h0 h1 ?_
    intro k n hn
    pointwise
    exact congrArg (fun j : Fin 4608 => iblk0 V c 3 t (ix2 k j)) (Fin.ext ((congrArg (_ + ·) hn).trans h1.symm))
  case piece34 =>
    rw [piece128]
    refine tile_in 1 _ _ 0 (by decide) _ _ x y h0 h1 ?_
    intro k n hn
    pointwise
    exact congrArg (fun j : Fin 4608 => iblk0 V c 3 t (ix2 k j)) (Fin.ext ((congrArg (_ + ·) hn).trans h1.symm))
  case piece35 =>
    rw [piece0]
    refine tile_in 0 _ _ 0 (by decide) _ _ x y h0 (h1.trans (Nat.zero_add _).symm) ?_
    intro k n hn
    pointwise
    exact congrArg (fun j : Fin 4608 => iblk0 V c 3 t (ix2 k j)) (Fin.ext (hn.trans h1.symm))

end Cert.KernelIdeal.Gen
-- ==== Proof.Val.PrepCh.lean ====
/- The prep call's scales and zero points. -/
module

public import proofs.«01_k».proof.Proof.RunIdeal.Region0
public import proofs.«01_k».proof.Proof.Val.Cluster
public import Idealize.ShloMosaic.Lib.Pipeline.ValueKit

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-! Each step of the search through the clusters, at one channel. -/

/-- Payload 2 of the search, at one channel. -/
theorem p2 (i : grid0.Coords) (v6 : Elt Ideal .i32) (v9 : Elt Ideal .i32) (j : S1x512.Idx) : k0_pay2 (F := Ideal) i v6 v9 j = (IntOp.andi (IntOp.cmpi .sge (k0_pay1 i j) v6) (IntOp.cmpi .slt (k0_pay1 i j) v9)) := rfl
/-- Payload 3 of the search, at one channel. -/
theorem p3 (i : grid0.Coords) (v19 : Elt Ideal .i32) (v22 : Elt Ideal .i32) (j : S1x512.Idx) : k0_pay3 (F := Ideal) i v19 v22 j = (IntOp.andi (IntOp.cmpi .sge (k0_pay1 i j) v19) (IntOp.cmpi .slt (k0_pay1 i j) v22)) := rfl
/-- Payload 4 of the search, at one channel. -/
theorem p4 (i : grid0.Coords) (v6 : Elt Ideal .i32) (v9 : Elt Ideal .i32) (v13 : Elt Ideal .f32) (v19 : Elt Ideal .i32) (v22 : Elt Ideal .i32) (v26 : Elt Ideal .f32) (j : S1x512.Idx) : k0_pay4 (F := Ideal) i v6 v9 v13 v19 v22 v26 j = (Scalar.select (k0_pay3 (F := Ideal) i v19 v22 j) v26 (Scalar.select (k0_pay2 (F := Ideal) i v6 v9 j) v13 (Ideal.ofBits .f32 0x00000000#32))) := rfl
/-- Payload 5 of the search, at one channel. -/
theorem p5 (i : grid0.Coords) (v6 : Elt Ideal .i32) (v9 : Elt Ideal .i32) (v16 : Elt Ideal .f32) (v19 : Elt Ideal .i32) (v22 : Elt Ideal .i32) (v29 : Elt Ideal .f32) (j : S1x512.Idx) : k0_pay5 (F := Ideal) i v6 v9 v16 v19 v22 v29 j = (Scalar.select (k0_pay3 (F := Ideal) i v19 v22 j) v29 (Scalar.select (k0_pay2 (F := Ideal) i v6 v9 j) v16 (Ideal.ofBits .f32 0x00000000#32))) := rfl
/-- Payload 6 of the search, at one channel. -/
theorem p6 (i : grid0.Coords) (v32 : Elt Ideal .i32) (v35 : Elt Ideal .i32) (j : S1x512.Idx) : k0_pay6 (F := Ideal) i v32 v35 j = (IntOp.andi (IntOp.cmpi .sge (k0_pay1 i j) v32) (IntOp.cmpi .slt (k0_pay1 i j) v35)) := rfl
/-- Payload 7 of the search, at one channel. -/
theorem p7 (v3 : IVec S1x512 32) (v45 : Elt Ideal .i32) (v48 : Elt Ideal .i32) (j : S1x512.Idx) : k0_pay7 (F := Ideal) v3 v45 v48 j = (IntOp.andi (IntOp.cmpi .sge (v3 j) v45) (IntOp.cmpi .slt (v3 j) v48)) := rfl
/-- Payload 8 of the search, at one channel. -/
theorem p8 (v3 : IVec S1x512 32) (v58 : Elt Ideal .i32) (v61 : Elt Ideal .i32) (j : S1x512.Idx) : k0_pay8 (F := Ideal) v3 v58 v61 j = (IntOp.andi (IntOp.cmpi .sge (v3 j) v58) (IntOp.cmpi .slt (v3 j) v61)) := rfl
/-- Payload 9 of the search, at one channel. -/
theorem p9 (v3 : IVec S1x512 32) (v31 : FVec Ideal S1x512 .f32) (v38 : IVec S1x512 1) (v42 : Elt Ideal .f32) (v45 : Elt Ideal .i32) (v48 : Elt Ideal .i32) (v55 : Elt Ideal .f32) (v58 : Elt Ideal .i32) (v61 : Elt Ideal .i32) (v68 : Elt Ideal .f32) (j : S1x512.Idx) : k0_pay9 (F := Ideal) v3 v31 v38 v42 v45 v48 v55 v58 v61 v68 j = (Scalar.select (k0_pay8 (F := Ideal) v3 v58 v61 j) v68 (Scalar.select (k0_pay7 (F := Ideal) v3 v45 v48 j) v55 (Scalar.select (v38 j) v42 (v31 j)))) := rfl
/-- Payload 10 of the search, at one channel. -/
theorem p10 (v3 : IVec S1x512 32) (v71 : Elt Ideal .i32) (v74 : Elt Ideal .i32) (j : S1x512.Idx) : k0_pay10 (F := Ideal) v3 v71 v74 j = (IntOp.andi (IntOp.cmpi .sge (v3 j) v71) (IntOp.cmpi .slt (v3 j) v74)) := rfl
/-- Payload 11 of the search, at one channel. -/
theorem p11 (v3 : IVec S1x512 32) (v28 : FVec Ideal S1x512 .f32) (v38 : IVec S1x512 1) (v39 : Elt Ideal .f32) (v45 : Elt Ideal .i32) (v48 : Elt Ideal .i32) (v52 : Elt Ideal .f32) (v58 : Elt Ideal .i32) (v61 : Elt Ideal .i32) (v65 : Elt Ideal .f32) (v71 : Elt Ideal .i32) (v74 : Elt Ideal .i32) (v78 : Elt Ideal .f32) (j : S1x512.Idx) : k0_pay11 (F := Ideal) v3 v28 v38 v39 v45 v48 v52 v58 v61 v65 v71 v74 v78 j = (Scalar.select (k0_pay10 (F := Ideal) v3 v71 v74 j) v78 (Scalar.select (k0_pay8 (F := Ideal) v3 v58 v61 j) v65 (Scalar.select (k0_pay7 (F := Ideal) v3 v45 v48 j) v52 (Scalar.select (v38 j) v39 (v28 j))))) := rfl
/-- Payload 12 of the search, at one channel. -/
theorem p12 (v3 : IVec S1x512 32) (v84 : Elt Ideal .i32) (v87 : Elt Ideal .i32) (j : S1x512.Idx) : k0_pay12 (F := Ideal) v3 v84 v87 j = (IntOp.andi (IntOp.cmpi .sge (v3 j) v84) (IntOp.cmpi .slt (v3 j) v87)) := rfl
/-- Payload 13 of the search, at one channel. -/
theorem p13 (v3 : IVec S1x512 32) (v97 : Elt Ideal .i32) (v100 : Elt Ideal .i32) (j : S1x512.Idx) : k0_pay13 (F := Ideal) v3 v97 v100 j = (IntOp.andi (IntOp.cmpi .sge (v3 j) v97) (IntOp.cmpi .slt (v3 j) v100)) := rfl
/-- Payload 14 of the search, at one channel. -/
theorem p14 (v3 : IVec S1x512 32) (v70 : FVec Ideal S1x512 .f32) (v77 : IVec S1x512 1) (v81 : Elt Ideal .f32) (v84 : Elt Ideal .i32) (v87 : Elt Ideal .i32) (v94 : Elt Ideal .f32) (v97 : Elt Ideal .i32) (v100 : Elt Ideal .i32) (v107 : Elt Ideal .f32) (j : S1x512.Idx) : k0_pay14 (F := Ideal) v3 v70 v77 v81 v84 v87 v94 v97 v100 v107 j = (Scalar.select (k0_pay13 (F := Ideal) v3 v97 v100 j) v107 (Scalar.select (k0_pay12 (F := Ideal) v3 v84 v87 j) v94 (Scalar.select (v77 j) v81 (v70 j)))) := rfl
/-- Payload 15 of the search, at one channel. -/
theorem p15 (v3 : IVec S1x512 32) (v110 : Elt Ideal .i32) (v113 : Elt Ideal .i32) (j : S1x512.Idx) : k0_pay15 (F := Ideal) v3 v110 v113 j = (IntOp.andi (IntOp.cmpi .sge (v3 j) v110) (IntOp.cmpi .slt (v3 j) v113)) := rfl
/-- Payload 16 of the search, at one channel. -/
theorem p16 (v3 : IVec S1x512 32) (v80 : FVec Ideal S1x512 .f32) (v84 : Elt Ideal .i32) (v87 : Elt Ideal .i32) (v91 : Elt Ideal .f32) (v97 : Elt Ideal .i32) (v100 : Elt Ideal .i32) (v104 : Elt Ideal .f32) (v110 : Elt Ideal .i32) (v113 : Elt Ideal .i32) (v117 : Elt Ideal .f32) (j : S1x512.Idx) : k0_pay16 (F := Ideal) v3 v80 v84 v87 v91 v97 v100 v104 v110 v113 v117 j = (Scalar.select (k0_pay15 (F := Ideal) v3 v110 v113 j) v117 (Scalar.select (k0_pay13 (F := Ideal) v3 v97 v100 j) v104 (Scalar.select (k0_pay12 (F := Ideal) v3 v84 v87 j) v91 (v80 j)))) := rfl
/-- Payload 17 of the search, at one channel. -/
theorem p17 (v120 : Elt Ideal .f32) (j : S1x512.Idx) : k0_pay17 (F := Ideal) v120 j = v120 := rfl
/-- Payload 18 of the search, at one channel. -/
theorem p18 (v3 : IVec S1x512 32) (v123 : Elt Ideal .i32) (v126 : Elt Ideal .i32) (j : S1x512.Idx) : k0_pay18 (F := Ideal) v3 v123 v126 j = (IntOp.andi (IntOp.cmpi .sge (v3 j) v123) (IntOp.cmpi .slt (v3 j) v126)) := rfl
/-- Payload 19 of the search, at one channel. -/
theorem p19 (v3 : IVec S1x512 32) (v136 : Elt Ideal .i32) (v139 : Elt Ideal .i32) (j : S1x512.Idx) : k0_pay19 (F := Ideal) v3 v136 v139 j = (IntOp.andi (IntOp.cmpi .sge (v3 j) v136) (IntOp.cmpi .slt (v3 j) v139)) := rfl
/-- Payload 20 of the search, at one channel. -/
theorem p20 (v3 : IVec S1x512 32) (v149 : Elt Ideal .i32) (v152 : Elt Ideal .i32) (j : S1x512.Idx) : k0_pay20 (F := Ideal) v3 v149 v152 j = (IntOp.andi (IntOp.cmpi .sge (v3 j) v149) (IntOp.cmpi .slt (v3 j) v152)) := rfl
/-- Payload 21 of the search, at one channel. -/
theorem p21 (v3 : IVec S1x512 32) (v119 : FVec Ideal S1x512 .f32) (v123 : Elt Ideal .i32) (v126 : Elt Ideal .i32) (v130 : Elt Ideal .f32) (v136 : Elt Ideal .i32) (v139 : Elt Ideal .i32) (v143 : Elt Ideal .f32) (v149 : Elt Ideal .i32) (v152 : Elt Ideal .i32) (v156 : Elt Ideal .f32) (j : S1x512.Idx) : k0_pay21 (F := Ideal) v3 v119 v123 v126 v130 v136 v139 v143 v149 v152 v156 j = (Scalar.select (k0_pay20 (F := Ideal) v3 v149 v152 j) v156 (Scalar.select (k0_pay19 (F := Ideal) v3 v136 v139 j) v143 (Scalar.select (k0_pay18 (F := Ideal) v3 v123 v126 j) v130 (v119 j)))) := rfl
/-- Payload 22 of the search, at one channel. -/
theorem p22 (v3 : IVec S1x512 32) (v109 : FVec Ideal S1x512 .f32) (v116 : IVec S1x512 1) (v121 : FVec Ideal S1x512 .f32) (v123 : Elt Ideal .i32) (v126 : Elt Ideal .i32) (v133 : Elt Ideal .f32) (v136 : Elt Ideal .i32) (v139 : Elt Ideal .i32) (v146 : Elt Ideal .f32) (v149 : Elt Ideal .i32) (v152 : Elt Ideal .i32) (v159 : Elt Ideal .f32) (j : S1x512.Idx) : k0_pay22 (F := Ideal) v3 v109 v116 v121 v123 v126 v133 v136 v139 v146 v149 v152 v159 j = (Scalar.select (k0_pay20 (F := Ideal) v3 v149 v152 j) v159 (Scalar.select (k0_pay19 (F := Ideal) v3 v136 v139 j) v146 (Scalar.select (k0_pay18 (F := Ideal) v3 v123 v126 j) v133 (Scalar.select (v116 j) (v121 j) (v109 j))))) := rfl
/-- Payload 23 of the search, at one channel. -/
theorem p23 (v3 : IVec S1x512 32) (v162 : Elt Ideal .i32) (v165 : Elt Ideal .i32) (j : S1x512.Idx) : k0_pay23 (F := Ideal) v3 v162 v165 j = (IntOp.andi (IntOp.cmpi .sge (v3 j) v162) (IntOp.cmpi .slt (v3 j) v165)) := rfl
/-- Payload 24 of the search, at one channel. -/
theorem p24 (v3 : IVec S1x512 32) (v175 : Elt Ideal .i32) (v178 : Elt Ideal .i32) (j : S1x512.Idx) : k0_pay24 (F := Ideal) v3 v175 v178 j = (IntOp.andi (IntOp.cmpi .sge (v3 j) v175) (IntOp.cmpi .slt (v3 j) v178)) := rfl
/-- Payload 25 of the search, at one channel. -/
theorem p25 (v3 : IVec S1x512 32) (v188 : Elt Ideal .i32) (v191 : Elt Ideal .i32) (j : S1x512.Idx) : k0_pay25 (F := Ideal) v3 v188 v191 j = (IntOp.andi (IntOp.cmpi .sge (v3 j) v188) (IntOp.cmpi .slt (v3 j) v191)) := rfl
/-- Payload 26 of the search, at one channel. -/
theorem p26 (v3 : IVec S1x512 32) (v158 : FVec Ideal S1x512 .f32) (v162 : Elt Ideal .i32) (v165 : Elt Ideal .i32) (v169 : Elt Ideal .f32) (v175 : Elt Ideal .i32) (v178 : Elt Ideal .i32) (v182 : Elt Ideal .f32) (v188 : Elt Ideal .i32) (v191 : Elt Ideal .i32) (v195 : Elt Ideal .f32) (j : S1x512.Idx) : k0_pay26 (F := Ideal) v3 v158 v162 v165 v169 v175 v178 v182 v188 v191 v195 j = (Scalar.select (k0_pay25 (F := Ideal) v3 v188 v191 j) v195 (Scalar.select (k0_pay24 (F := Ideal) v3 v175 v178 j) v182 (Scalar.select (k0_pay23 (F := Ideal) v3 v162 v165 j) v169 (v158 j)))) := rfl
/-- Payload 27 of the search, at one channel. -/
theorem p27 (v3 : IVec S1x512 32) (v161 : FVec Ideal S1x512 .f32) (v162 : Elt Ideal .i32) (v165 : Elt Ideal .i32) (v172 : Elt Ideal .f32) (v175 : Elt Ideal .i32) (v178 : Elt Ideal .i32) (v185 : Elt Ideal .f32) (v188 : Elt Ideal .i32) (v191 : Elt Ideal .i32) (v198 : Elt Ideal .f32) (j : S1x512.Idx) : k0_pay27 (F := Ideal) v3 v161 v162 v165 v172 v175 v178 v185 v188 v191 v198 j = (Scalar.select (k0_pay25 (F := Ideal) v3 v188 v191 j) v198 (Scalar.select (k0_pay24 (F := Ideal) v3 v175 v178 j) v185 (Scalar.select (k0_pay23 (F := Ideal) v3 v162 v165 j) v172 (v161 j)))) := rfl
/-- Payload 28 of the search, at one channel. -/
theorem p28 (v3 : IVec S1x512 32) (v201 : Elt Ideal .i32) (j : S1x512.Idx) : k0_pay28 (F := Ideal) v3 v201 j = (IntOp.cmpi .sge (v3 j) v201) := rfl
/-- Payload 29 of the search, at one channel. -/
theorem p29 (v3 : IVec S1x512 32) (v203 : IVec S1x512 1) (v204 : Elt Ideal .i32) (j : S1x512.Idx) : k0_pay29 (F := Ideal) v3 v203 v204 j = (IntOp.andi (v203 j) (IntOp.cmpi .slt (v3 j) v204)) := rfl
/-- Payload 30 of the search, at one channel. -/
theorem p30 (v3 : IVec S1x512 32) (v214 : Elt Ideal .i32) (v217 : Elt Ideal .i32) (j : S1x512.Idx) : k0_pay30 (F := Ideal) v3 v214 v217 j = (IntOp.andi (IntOp.cmpi .sge (v3 j) v214) (IntOp.cmpi .slt (v3 j) v217)) := rfl
/-- Payload 31 of the search, at one channel. -/
theorem p31 (v3 : IVec S1x512 32) (v227 : Elt Ideal .i32) (v230 : Elt Ideal .i32) (j : S1x512.Idx) : k0_pay31 (F := Ideal) v3 v227 v230 j = (IntOp.andi (IntOp.cmpi .sge (v3 j) v227) (IntOp.cmpi .slt (v3 j) v230)) := rfl
/-- Payload 32 of the search, at one channel. -/
theorem p32 (v3 : IVec S1x512 32) (v197 : FVec Ideal S1x512 .f32) (v203 : IVec S1x512 1) (v204 : Elt Ideal .i32) (v208 : Elt Ideal .f32) (v214 : Elt Ideal .i32) (v217 : Elt Ideal .i32) (v221 : Elt Ideal .f32) (v227 : Elt Ideal .i32) (v230 : Elt Ideal .i32) (v234 : Elt Ideal .f32) (j : S1x512.Idx) : k0_pay32 (F := Ideal) v3 v197 v203 v204 v208 v214 v217 v221 v227 v230 v234 j = (Scalar.select (k0_pay31 (F := Ideal) v3 v227 v230 j) v234 (Scalar.select (k0_pay30 (F := Ideal) v3 v214 v217 j) v221 (Scalar.select (k0_pay29 (F := Ideal) v3 v203 v204 j) v208 (v197 j)))) := rfl
/-- Payload 33 of the search, at one channel. -/
theorem p33 (v3 : IVec S1x512 32) (v200 : FVec Ideal S1x512 .f32) (v203 : IVec S1x512 1) (v204 : Elt Ideal .i32) (v211 : Elt Ideal .f32) (v214 : Elt Ideal .i32) (v217 : Elt Ideal .i32) (v224 : Elt Ideal .f32) (v227 : Elt Ideal .i32) (v230 : Elt Ideal .i32) (v237 : Elt Ideal .f32) (j : S1x512.Idx) : k0_pay33 (F := Ideal) v3 v200 v203 v204 v211 v214 v217 v224 v227 v230 v237 j = (Scalar.select (k0_pay31 (F := Ideal) v3 v227 v230 j) v237 (Scalar.select (k0_pay30 (F := Ideal) v3 v214 v217 j) v224 (Scalar.select (k0_pay29 (F := Ideal) v3 v203 v204 j) v211 (v200 j)))) := rfl
/-- Payload 34 of the search, at one channel. -/
theorem p34 (v3 : IVec S1x512 32) (v240 : Elt Ideal .i32) (j : S1x512.Idx) : k0_pay34 (F := Ideal) v3 v240 j = (IntOp.cmpi .sge (v3 j) v240) := rfl
/-- Payload 35 of the search, at one channel. -/
theorem p35 (v3 : IVec S1x512 32) (v243 : Elt Ideal .i32) (j : S1x512.Idx) : k0_pay35 (F := Ideal) v3 v243 j = (IntOp.cmpi .slt (v3 j) v243) := rfl
/-- Payload 36 of the search, at one channel. -/
theorem p36 (v242 : IVec S1x512 1) (v245 : IVec S1x512 1) (j : S1x512.Idx) : k0_pay36 v242 v245 j = (IntOp.andi (v242 j) (v245 j)) := rfl
/-- Payload 37 of the search, at one channel. -/
theorem p37 (v3 : IVec S1x512 32) (v253 : Elt Ideal .i32) (v256 : Elt Ideal .i32) (j : S1x512.Idx) : k0_pay37 (F := Ideal) v3 v253 v256 j = (IntOp.andi (IntOp.cmpi .sge (v3 j) v253) (IntOp.cmpi .slt (v3 j) v256)) := rfl
/-- Payload 38 of the search, at one channel. -/
theorem p38 (v3 : IVec S1x512 32) (v266 : Elt Ideal .i32) (v269 : Elt Ideal .i32) (j : S1x512.Idx) : k0_pay38 (F := Ideal) v3 v266 v269 j = (IntOp.andi (IntOp.cmpi .sge (v3 j) v266) (IntOp.cmpi .slt (v3 j) v269)) := rfl
/-- Payload 39 of the search, at one channel. -/
theorem p39 (v3 : IVec S1x512 32) (v236 : FVec Ideal S1x512 .f32) (v242 : IVec S1x512 1) (v245 : IVec S1x512 1) (v247 : Elt Ideal .f32) (v253 : Elt Ideal .i32) (v256 : Elt Ideal .i32) (v260 : Elt Ideal .f32) (v266 : Elt Ideal .i32) (v269 : Elt Ideal .i32) (v273 : Elt Ideal .f32) (j : S1x512.Idx) : k0_pay39 (F := Ideal) v3 v236 v242 v245 v247 v253 v256 v260 v266 v269 v273 j = (Scalar.select (k0_pay38 (F := Ideal) v3 v266 v269 j) v273 (Scalar.select (k0_pay37 (F := Ideal) v3 v253 v256 j) v260 (Scalar.select (k0_pay36 v242 v245 j) v247 (v236 j)))) := rfl
/-- Payload 40 of the search, at one channel. -/
theorem p40 (v3 : IVec S1x512 32) (v239 : FVec Ideal S1x512 .f32) (v242 : IVec S1x512 1) (v245 : IVec S1x512 1) (v250 : Elt Ideal .f32) (v253 : Elt Ideal .i32) (v256 : Elt Ideal .i32) (v263 : Elt Ideal .f32) (v266 : Elt Ideal .i32) (v269 : Elt Ideal .i32) (v276 : Elt Ideal .f32) (j : S1x512.Idx) : k0_pay40 (F := Ideal) v3 v239 v242 v245 v250 v253 v256 v263 v266 v269 v276 j = (Scalar.select (k0_pay38 (F := Ideal) v3 v266 v269 j) v276 (Scalar.select (k0_pay37 (F := Ideal) v3 v253 v256 j) v263 (Scalar.select (k0_pay36 v242 v245 j) v250 (v239 j)))) := rfl
/-- Payload 41 of the search, at one channel. -/
theorem p41 (v3 : IVec S1x512 32) (v279 : Elt Ideal .i32) (v282 : Elt Ideal .i32) (j : S1x512.Idx) : k0_pay41 (F := Ideal) v3 v279 v282 j = (IntOp.andi (IntOp.cmpi .sge (v3 j) v279) (IntOp.cmpi .slt (v3 j) v282)) := rfl
/-- Payload 42 of the search, at one channel. -/
theorem p42 (v3 : IVec S1x512 32) (v292 : Elt Ideal .i32) (v295 : Elt Ideal .i32) (j : S1x512.Idx) : k0_pay42 (F := Ideal) v3 v292 v295 j = (IntOp.andi (IntOp.cmpi .sge (v3 j) v292) (IntOp.cmpi .slt (v3 j) v295)) := rfl
/-- Payload 43 of the search, at one channel. -/
theorem p43 (v3 : IVec S1x512 32) (v305 : Elt Ideal .i32) (v308 : Elt Ideal .i32) (j : S1x512.Idx) : k0_pay43 (F := Ideal) v3 v305 v308 j = (IntOp.andi (IntOp.cmpi .sge (v3 j) v305) (IntOp.cmpi .slt (v3 j) v308)) := rfl
/-- Payload 44 of the search, at one channel. -/
theorem p44 (v3 : IVec S1x512 32) (v278 : FVec Ideal S1x512 .f32) (v285 : IVec S1x512 1) (v289 : Elt Ideal .f32) (v292 : Elt Ideal .i32) (v295 : Elt Ideal .i32) (v302 : Elt Ideal .f32) (v305 : Elt Ideal .i32) (v308 : Elt Ideal .i32) (v315 : Elt Ideal .f32) (j : S1x512.Idx) : k0_pay44 (F := Ideal) v3 v278 v285 v289 v292 v295 v302 v305 v308 v315 j = (Scalar.select (k0_pay43 (F := Ideal) v3 v305 v308 j) v315 (Scalar.select (k0_pay42 (F := Ideal) v3 v292 v295 j) v302 (Scalar.select (v285 j) v289 (v278 j)))) := rfl
/-- Payload 45 of the search, at one channel. -/
theorem p45 (v3 : IVec S1x512 32) (v318 : Elt Ideal .i32) (v321 : Elt Ideal .i32) (j : S1x512.Idx) : k0_pay45 (F := Ideal) v3 v318 v321 j = (IntOp.andi (IntOp.cmpi .sge (v3 j) v318) (IntOp.cmpi .slt (v3 j) v321)) := rfl
/-- Payload 46 of the search, at one channel. -/
theorem p46 (v3 : IVec S1x512 32) (v275 : FVec Ideal S1x512 .f32) (v285 : IVec S1x512 1) (v286 : Elt Ideal .f32) (v292 : Elt Ideal .i32) (v295 : Elt Ideal .i32) (v299 : Elt Ideal .f32) (v305 : Elt Ideal .i32) (v308 : Elt Ideal .i32) (v312 : Elt Ideal .f32) (v318 : Elt Ideal .i32) (v321 : Elt Ideal .i32) (v325 : Elt Ideal .f32) (j : S1x512.Idx) : k0_pay46 (F := Ideal) v3 v275 v285 v286 v292 v295 v299 v305 v308 v312 v318 v321 v325 j = (Scalar.select (k0_pay45 (F := Ideal) v3 v318 v321 j) v325 (Scalar.select (k0_pay43 (F := Ideal) v3 v305 v308 j) v312 (Scalar.select (k0_pay42 (F := Ideal) v3 v292 v295 j) v299 (Scalar.select (v285 j) v286 (v275 j))))) := rfl
/-- Payload 47 of the search, at one channel. -/
theorem p47 (v3 : IVec S1x512 32) (v331 : Elt Ideal .i32) (v334 : Elt Ideal .i32) (j : S1x512.Idx) : k0_pay47 (F := Ideal) v3 v331 v334 j = (IntOp.andi (IntOp.cmpi .sge (v3 j) v331) (IntOp.cmpi .slt (v3 j) v334)) := rfl
/-- Payload 48 of the search, at one channel. -/
theorem p48 (v3 : IVec S1x512 32) (v344 : Elt Ideal .i32) (v347 : Elt Ideal .i32) (j : S1x512.Idx) : k0_pay48 (F := Ideal) v3 v344 v347 j = (IntOp.andi (IntOp.cmpi .sge (v3 j) v344) (IntOp.cmpi .slt (v3 j) v347)) := rfl
/-- Payload 49 of the search, at one channel. -/
theorem p49 (v3 : IVec S1x512 32) (v317 : FVec Ideal S1x512 .f32) (v324 : IVec S1x512 1) (v328 : Elt Ideal .f32) (v331 : Elt Ideal .i32) (v334 : Elt Ideal .i32) (v341 : Elt Ideal .f32) (v344 : Elt Ideal .i32) (v347 : Elt Ideal .i32) (v354 : Elt Ideal .f32) (j : S1x512.Idx) : k0_pay49 (F := Ideal) v3 v317 v324 v328 v331 v334 v341 v344 v347 v354 j = (Scalar.select (k0_pay48 (F := Ideal) v3 v344 v347 j) v354 (Scalar.select (k0_pay47 (F := Ideal) v3 v331 v334 j) v341 (Scalar.select (v324 j) v328 (v317 j)))) := rfl
/-- Payload 50 of the search, at one channel. -/
theorem p50 (v3 : IVec S1x512 32) (v357 : Elt Ideal .i32) (v360 : Elt Ideal .i32) (j : S1x512.Idx) : k0_pay50 (F := Ideal) v3 v357 v360 j = (IntOp.andi (IntOp.cmpi .sge (v3 j) v357) (IntOp.cmpi .slt (v3 j) v360)) := rfl
/-- Payload 51 of the search, at one channel. -/
theorem p51 (v3 : IVec S1x512 32) (v327 : FVec Ideal S1x512 .f32) (v331 : Elt Ideal .i32) (v334 : Elt Ideal .i32) (v338 : Elt Ideal .f32) (v344 : Elt Ideal .i32) (v347 : Elt Ideal .i32) (v351 : Elt Ideal .f32) (v357 : Elt Ideal .i32) (v360 : Elt Ideal .i32) (v364 : Elt Ideal .f32) (j : S1x512.Idx) : k0_pay51 (F := Ideal) v3 v327 v331 v334 v338 v344 v347 v351 v357 v360 v364 j = (Scalar.select (k0_pay50 (F := Ideal) v3 v357 v360 j) v364 (Scalar.select (k0_pay48 (F := Ideal) v3 v344 v347 j) v351 (Scalar.select (k0_pay47 (F := Ideal) v3 v331 v334 j) v338 (v327 j)))) := rfl

/-- The `k`-th of a row's places. -/
def nth {n : ℕ} [NeZero n] (k : ℕ) : Fin n := ⟨k % n, Nat.mod_lt _ (Nat.pos_of_ne_zero (NeZero.ne n))⟩

/-- Row 0 of the block is the scales. -/
theorem pay52_row0 (a : FVec Ideal S1x512 .f32) (m : IVec S1x512 1) (b : FVec Ideal S1x512 .f32) (x : Elt Ideal .f32) (l : Fin 512) :
    k0_pay52 a m b x (ix2 0 l) = b (ix2 0 l) := by
  pointwise [k0_pay52]

/-- Row 1 of the block is the zero points, picked once more. -/
theorem pay52_row1 (a : FVec Ideal S1x512 .f32) (m : IVec S1x512 1) (b : FVec Ideal S1x512 .f32) (x : Elt Ideal .f32) (l : Fin 512) :
    k0_pay52 a m b x (ix2 1 l) = Scalar.select (m (ix2 0 l)) x (a (ix2 0 l)) := by
  pointwise [k0_pay52]

/-- A bound read from its array. -/
theorem ld_bound (X : Vec Ideal S29 .i32) (n : ℕ) (h) : ∀ j, View.ld X (Rect.unit ![n] ![1] h) j = X (ix1 (nth (n := 29) n)) := by
  intro j
  have h0 : n + 1 ≤ 29 := h 0
  have hj : (j 0).val < 1 := (j 0).isLt
  rw [View.ld_apply]
  congr 1
  funext a
  match a with
  | ⟨0, _⟩ => exact Fin.ext (by show n + 1 * (j 0).val = n % 29; omega)

/-- A scale or zero point read from its array. -/
theorem ld_act (X : Vec Ideal S2x28 .f32) (k n : ℕ) (h) :
    ∀ j, View.ld X (Rect.unit ![k, n] ![1, 1] h) j = X (ix2 (nth (n := 2) k) (nth (n := 28) n)) := by
  intro j
  have h0 : k + 1 ≤ 2 := h 0
  have h1 : n + 1 ≤ 28 := h 1
  have hj : (j 0).val < 1 := (j 0).isLt
  have hj : (j 1).val < 1 := (j 1).isLt
  rw [View.ld_apply]
  congr 1
  funext a
  match a with
  | ⟨0, _⟩ => exact Fin.ext (by show k + 1 * (j 0).val = k % 2; omega)
  | ⟨1, _⟩ => exact Fin.ext (by show n + 1 * (j 1).val = n % 28; omega)

/-- One cluster's choice, from equal parts. -/
theorem sel_congr {ch b b' e e' : BitVec 32} {a a' r r' : EReal} (hb : b = b') (he : e = e') (ha : a = a') (hr : r = r') :
    Scalar.select (IntOp.andi (IntOp.cmpi .sge ch b) (IntOp.cmpi .slt ch e)) a r = Scalar.select (IntOp.andi (IntOp.cmpi .sge ch b') (IntOp.cmpi .slt ch e')) a' r' := by
  rw [hb, he, ha, hr]

set_option maxHeartbeats 2000000 in
/-- Row 0 of a point's block holds the channels' scales. -/
theorem ch0_at (c : Dev nD) (t : Fin cfg0.N) (l : Fin 512) : (outsAt0 V c t).2 (ix2 0 l) =
    pickTo (k0_pay1 (grid0.coords t) (ix2 0 l)) (fun n => iblk0 V c 0 t (ix1 (nth (n:=29) n))) (fun n => iblk0 V c 2 t (ix2 (nth (n:=2) 0) (nth (n:=28) n))) 28 := by
  unfold outsAt0
  frame_out
  rw [pay52_row0]
  simp only [p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51]
  simp only [pickTo, Nat.reduceAdd]
  iterate 28 refine sel_congr (ld_bound _ _ _ _) (ld_bound _ _ _ _) (ld_act _ _ _ _ _) ?_
  rfl

set_option maxHeartbeats 2000000 in
/-- Row 1 of a point's block holds the channels' zero points. -/
theorem ch1_at (c : Dev nD) (t : Fin cfg0.N) (l : Fin 512) : (outsAt0 V c t).2 (ix2 1 l) =
    pickTo (k0_pay1 (grid0.coords t) (ix2 0 l)) (fun n => iblk0 V c 0 t (ix1 (nth (n:=29) n))) (fun n => iblk0 V c 2 t (ix2 (nth (n:=2) 1) (nth (n:=28) n))) 28 := by
  unfold outsAt0
  frame_out
  rw [pay52_row1]
  simp only [p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51]
  simp only [pickTo, Nat.reduceAdd]
  iterate 28 refine sel_congr (ld_bound _ _ _ _) (ld_bound _ _ _ _) (ld_act _ _ _ _ _) ?_
  rfl

end Cert.KernelIdeal.Gen
-- ==== Proof.Val.PrepArr.lean ====
/- The prep call: the arrays its windows leave, at any contents they are entered with. -/
module

public import proofs.«01_k».proof.Proof.Val.PrepWd
public import proofs.«01_k».proof.Proof.Val.PrepCh

@[expose] public section
set_option maxRecDepth 16384
noncomputable section
namespace Cert.KernelIdeal.Gen
open Idealize.ShloMosaic Idealize.ShloMosaic.TcCoe Idealize.SL.Sem Cert.Spec
open Idealize.ShloMosaic.Pipeline (Dat)

variable (V : (c : Dev nD) → (b : Ref sig .tc) → Buf (Elt Ideal) ((c : Thread nD τ).loc b))

/-- The windows' block indices at each point. -/
theorem idx0 : ∀ t : Fin cfg0.N, win0_0.index t = ![0] ∧ win0_1.index t = ![0, 0] ∧ win0_2.index t = ![0, 0]
    ∧ win0_3.index t = ![0, 0] ∧ win0_4.index t = ![t.val, 0] ∧ win0_5.index t = ![t.val, 0] ∧ win0_6.index t = ![0, t.val] :=
  (by decide +kernel : ∀ t : Fin grid0.N, _)

/-- A point's coordinate is its number. -/
theorem coord0 : ∀ t : Fin cfg0.N, (grid0.coords t 0).val = t.val := (by decide +kernel : ∀ t : Fin grid0.N, _)

/-- A block's first channel and a place in the block make the channel. -/
theorem chan_at (t : Fin cfg0.N) (l : ℕ) :
    Scalar.muli (BitVec.ofNat 32 ↑(grid0.coords t 0)) 512#32 + BitVec.ofNat 32 l = BitVec.ofNat 32 (t.val * 512 + l) := by
  rw [coord0 t, BitVec.ofNat_add, BitVec.ofNat_mul]; rfl

/-- The block's channel numbers. -/
theorem pay1_chan (t : Fin cfg0.N) (l : Fin 512) : k0_pay1 (grid0.coords t) (ix2 0 l) = BitVec.ofNat 32 (t.val * 512 + l.val) := by
  rw [← chan_at t l.val]
  pointwise [k0_pay1]
  rfl

/-- The scales' block is the whole array. -/
theorem wsBlk0 (c : Dev nD) (t : Fin cfg0.N) (k : Fin 32) (n N : Fin 4608) (hN : N.val = n.val) :
    iblk0 V c 3 t (ix2 k n) = (V c (Pipeline.arrRef spec0 3) : FVec Ideal S32x4608 .bf16) (ix2 k N) := by
  blk_ext [iblk0, idx0 t]

/-- The weights: each its code times its cluster's scale. -/
theorem wdArr (c : Dev nD) : (dat0 V c).arrAt 5 cfg0.N = fun i =>
    field ((V c (Pipeline.arrRef spec0 4) : Vec Ideal S12288x2304 .i8) (ix2 (i 0) ⟨(i 1 : ℕ) / 2, by have : (i 1 : ℕ) < 4608 := (i 1).isLt; omega⟩)) (i 1) *
      ∑ k : Fin 32, hot (BitVec.ofNat 32 (i 0 : ℕ)) ((V c (Pipeline.arrRef spec0 1) : IVec S8x32 32) (ix2 0 k)) ((V c (Pipeline.arrRef spec0 1) : IVec S8x32 32) (ix2 1 k))
        * (V c (Pipeline.arrRef spec0 3) : FVec Ideal S32x4608 .bf16) (ix2 k (i 1)) := by
  refine (dat0 V c).arrAt_eq_of_covers 5 _ (by decide +kernel) (fun t hf y => ?_)
  blk_simp
  rw [after0_5, wd_at]
  refine congr (congrArg HMul.hMul (congr (congrArg field ?_) ?_)) (Finset.sum_congr rfl fun k _ => congr (congrArg HMul.hMul ?_) ?_)
  · blk_ext [iblk0, idx0 t]
  · blk_simp [idx0 t]
  · refine (hot_at _ _ _ (y 0) k).trans ?_
    rw [chan_at]
    refine congr (congr (congrArg hot ?_) ?_) ?_
    · blk_simp [idx0 t]
    · pointwise
      blk_ext [iblk0, idx0 t]
    · pointwise
      blk_ext [iblk0, idx0 t]
  · refine wsBlk0 V c t k _ _ ?_
    blk_simp [idx0 t]

/-- The scales' row and the zero points' row. -/
theorem chArr (c : Dev nD) (l : Fin 12288) :
    (dat0 V c).arrAt 6 cfg0.N (ix2 (0 : Fin 8) l) = pickTo (BitVec.ofNat 32 l.val) (fun n => (V c (Pipeline.arrRef spec0 0) : IVec S29 32) (ix1 (nth (n := 29) n)))
        (fun n => (V c (Pipeline.arrRef spec0 2) : FVec Ideal S2x28 .f32) (ix2 (nth (n := 2) 0) (nth (n := 28) n))) 28
    ∧ (dat0 V c).arrAt 6 cfg0.N (ix2 (1 : Fin 8) l) = pickTo (BitVec.ofNat 32 l.val) (fun n => (V c (Pipeline.arrRef spec0 0) : IVec S29 32) (ix1 (nth (n := 29) n)))
        (fun n => (V c (Pipeline.arrRef spec0 2) : FVec Ideal S2x28 .f32) (ix2 (nth (n := 2) 1) (nth (n := 28) n))) 28 := by
  have key := (dat0 V c).arrAt_forall_of_covers 6 (fun i v =>
      ((i 0 : ℕ) = 0 → v = pickTo (BitVec.ofNat 32 (i 1 : ℕ)) (fun n => (V c (Pipeline.arrRef spec0 0) : IVec S29 32) (ix1 (nth (n := 29) n)))
        (fun n => (V c (Pipeline.arrRef spec0 2) : FVec Ideal S2x28 .f32) (ix2 (nth (n := 2) 0) (nth (n := 28) n))) 28)
      ∧ ((i 0 : ℕ) = 1 → v = pickTo (BitVec.ofNat 32 (i 1 : ℕ)) (fun n => (V c (Pipeline.arrRef spec0 0) : IVec S29 32) (ix1 (nth (n := 29) n)))
        (fun n => (V c (Pipeline.arrRef spec0 2) : FVec Ideal S2x28 .f32) (ix2 (nth (n := 2) 1) (nth (n := 28) n))) 28)) (by decide +kernel) (fun t hf y => ?_)
  · exact ⟨(key (ix2 (0 : Fin 8) l)).1 rfl, (key (ix2 (1 : Fin 8) l)).2 rfl⟩
  · have eb : ∀ n, iblk0 V c 0 t (ix1 (nth (n := 29) n)) = (V c (Pipeline.arrRef spec0 0) : IVec S29 32) (ix1 (nth (n := 29) n)) := by
      intro n
      blk_ext [iblk0, idx0 t]
    have ea : ∀ k n, iblk0 V c 2 t (ix2 (nth (n := 2) k) (nth (n := 28) n)) = (V c (Pipeline.arrRef spec0 2) : FVec Ideal S2x28 .f32) (ix2 (nth (n := 2) k) (nth (n := 28) n)) := by
      intro k n
      blk_ext [iblk0, idx0 t]
    blk_simp [idx0 t]
    rw [after0_6]
    obtain ⟨r, n, rfl⟩ : ∃ (r : Fin 8) (n : Fin 512), y = ix2 r n := ⟨y 0, y 1, by funext a; match a with | ⟨0, _⟩ => rfl | ⟨1, _⟩ => rfl⟩
    constructor
    · intro h
      obtain rfl : r = 0 := Fin.ext (by simpa using h)
      refine (ch0_at V c t n).trans ?_
      rw [pay1_chan]
      simp only [eb, ea]
      rfl
    · intro h
      obtain rfl : r = 1 := Fin.ext (by simpa using h)
      refine (ch1_at V c t n).trans ?_
      rw [pay1_chan]
      simp only [eb, ea]
      rfl

end Cert.KernelIdeal.Gen
-- ==== Proof.Val.PreRead.lean ====
/- What the precondition says: the bounds ascend from zero or below to 12288 or above. -/
module

public import proofs.«01_k».proof.Pre_sorted_bounds
public import proofs.«01_k».proof.Proof.Val.Cluster
public import Idealize.ShloMosaic.Lib.StableHlo.Predicate
public import Idealize.ShloMosaic.Lib.ValueIdx
public import Idealize.ShloMosaic.Lib.Routing.Ops
public import Idealize.ShloMosaic.Lib.ReduceAll

@[expose] public section
noncomputable section
namespace Cert.Spec
open Idealize.ShloMosaic

/-- The precondition's shape relations. -/
instance preFacts : Cert.Pre_sorted_bounds.Facts := ⟨by decide, by decide, by decide, by decide, by decide, by decide, by decide⟩

/-- The bounds, in order. -/
def bd (x : IVec ⟨1, ![29]⟩ 32) (k : ℕ) : BitVec 32 := x (ix1 ⟨k % 29, Nat.mod_lt _ (by decide)⟩)

/-- Both bits of a conjunction that holds are one. -/
theorem bit_and (a b : BitVec 1) (h : IntOp.andi a b = 1#1) : a = 1#1 ∧ b = 1#1 := by
  revert a b; decide

/-- A signed comparison that holds. -/
theorem sle_toInt (a b : BitVec 32) (h : IntOp.cmpi .sle a b = 1#1) : a.toInt ≤ b.toInt := by
  simp only [IntOp.cmpi, BitVec.sle_eq_decide] at h
  by_contra hn
  simp [hn] at h

/-- The scalar shape has one index. -/
instance : Subsingleton Cert.Pre_sorted_bounds.S_.Idx := ⟨fun a b => funext fun i => i.elim0⟩

/-- An argument that meets the precondition has ascending bounds that hold every channel. -/
theorem ascend_of_pre (a0 a1 a2 x a4 a5 a6 a7) (h : Cert.Pre_sorted_bounds.fn (F := Ideal) a0 a1 a2 x a4 a5 a6 a7 = fun _ => 1#1) : Ascend (bd x) := by
  have h := congrFun h (ValueIdx.ix0)
  unfold Cert.Pre_sorted_bounds.fn at h
  obtain ⟨h36, h10⟩ := bit_and _ _ h
  obtain ⟨h3, h6⟩ := bit_and _ _ h36
  refine ⟨fun k hk => ?_, ?_, ?_⟩
  · have q := Host.reduce_andi_all _ _ _ _ _ h3 (ValueIdx.ix1 ⟨k, hk⟩)
    have q := sle_toInt _ _ q
    refine (le_of_eq ?_).trans (q.trans (le_of_eq ?_))
    · refine congrArg BitVec.toInt ((?_ : _ = _).trans (Routing.slice1 0 x _ ⟨k, hk⟩ (by simp only; omega)).symm)
      exact congrArg x (congrArg ix1 (Fin.ext (by show k % 29 = 0 + k; omega)))
    · refine congrArg BitVec.toInt ((Routing.slice1 1 x _ ⟨k, hk⟩ (by simp only; omega)).trans ?_)
      exact congrArg x (congrArg ix1 (Fin.ext (by show 1 + k = (k + 1) % 29; omega)))
  · have q := sle_toInt _ _ h6
    have e := shapeCast_apply (extractStridedSlice Cert.Pre_sorted_bounds.S1 ![0] x Cert.Pre_sorted_bounds.Facts.slices_S29_S1_0)
      Cert.Pre_sorted_bounds.Facts.shapeCasts_S1_S_ ValueIdx.ix0 (ValueIdx.ix1 0) (by decide)
    refine (le_of_eq ?_).trans q
    refine congrArg BitVec.toInt (Eq.trans ?_ e.symm)
    exact (Routing.slice1 0 x _ (0 : Fin 1) (by decide)).symm
  · have q := sle_toInt _ _ h10
    have e := shapeCast_apply (extractStridedSlice Cert.Pre_sorted_bounds.S1 ![28] x Cert.Pre_sorted_bounds.Facts.slices_S29_S1_28)
      Cert.Pre_sorted_bounds.Facts.shapeCasts_S1_S_ ValueIdx.ix0 (ValueIdx.ix1 0) (by decide)
    refine q.trans (le_of_eq ?_)
    refine congrArg BitVec.toInt (e.trans ?_)
    exact Routing.slice1 28 x _ (0 : Fin 1) (by decide)

end Cert.Spec
-- ==== Proof.Val.Kernel.lean ====
/- The program's results as functions of its arguments, given each channel's cluster. -/
module

public import proofs.«01_k».proof.Proof.Val.Chain
public import proofs.«01_k».proof.Proof.Val.Hosts
public import proofs.«01_k».proof.Proof.Val.PrepArr
public import proofs.«01_k».proof.Proof.Val.PreRead

@[expose] public section
set_option maxRecDepth 16384
noncomputable section
namespace Cert.KernelIdeal.Gen
open Idealize.ShloMosaic Idealize.ShloMosaic.TcCoe Idealize.SL.Sem Cert.Spec

/-- The codes, from the rows and each channel's cluster, scale and zero point. -/
def codesFn (x : ℕ → Fin 12288 → EReal) (cid : Fin 12288 → Fin 28) (s : FVec Ideal S28 .f32) (z : IVec S28 32) (i : S7680x12288.Idx) : BitVec 8 :=
  code (x (i 0 : ℕ) (i 1)) (s (ix1 (cid (i 1)))) ((((z (ix1 (cid (i 1)))).toInt : ℝ)) : EReal)
/-- The product, from the rows, the weights' codes and each channel's cluster, scales and zero point. -/
def yFn (x : ℕ → Fin 12288 → EReal) (cid : Fin 12288 → Fin 28) (s : FVec Ideal S28 .f32) (z : IVec S28 32) (w : IVec S12288x2304 8)
    (ws : FVec Ideal S28x4608 .f32) (i : S7680x4608.Idx) : EReal :=
  ∑ l : Fin 12288, deq (x (i 0 : ℕ) l) (s (ix1 (cid l))) ((((z (ix1 (cid l))).toInt : ℝ)) : EReal) *
    (field (w (ix2 l ⟨(i 1 : ℕ) / 2, by have : (i 1 : ℕ) < 4608 := (i 1).isLt; omega⟩)) (i 1) * ws (ix2 (cid l) (i 1)))

variable (m : (ℓ : Loc nD τ sig) → Buf (Elt Ideal) ℓ) (ρ : Dev nD → PrngReg)

/-- The scale of a channel after the prep call. -/
theorem scale_chan (c : Dev nD) (l : Fin 12288) (k : Fin 28) (h : InCluster (bnd m c) l.val k) :
    chA m ρ c (ix2 0 l) = (show FVec Ideal S28 .f32 from m ((c : Thread nD τ).loc main_arg4)) (ix1 k) := by
  have e := congrFun (W9_arr m ρ c 6) (ix2 (0 : Fin 8) l)
  refine e.trans ((chArr (V8 m ρ) c l).1.trans ?_)
  have hb : V8 m ρ c (Pipeline.arrRef spec0 0) = m ((c : Thread nD τ).loc main_arg3) := W8_args m ρ c main_arg3 (by decide)
  rw [hb]
  refine (pickTo_cluster (b := bnd m c) h l.isLt _).trans ?_
  rw [← scale_at m ρ c k]
  refine congrArg (V8 m ρ c main_v5) (congrArg (ix2 0) (Fin.ext ?_))
  show k.val % 28 = k.val
  omega

/-- The zero point of a channel after the prep call. -/
theorem zero_chan (c : Dev nD) (l : Fin 12288) (k : Fin 28) (h : InCluster (bnd m c) l.val k) :
    chA m ρ c (ix2 1 l) = (((((show IVec S28 32 from m ((c : Thread nD τ).loc main_arg5)) (ix1 k)).toInt : ℝ)) : EReal) := by
  have e := congrFun (W9_arr m ρ c 6) (ix2 (1 : Fin 8) l)
  refine e.trans ((chArr (V8 m ρ) c l).2.trans ?_)
  have hb : V8 m ρ c (Pipeline.arrRef spec0 0) = m ((c : Thread nD τ).loc main_arg3) := W8_args m ρ c main_arg3 (by decide)
  rw [hb]
  refine (pickTo_cluster (b := bnd m c) h l.isLt _).trans ?_
  refine Eq.trans ?_ (zero_at m ρ c k)
  refine congrArg (V8 m ρ c main_v5) (congrArg (ix2 1) (Fin.ext ?_))
  show k.val % 28 = k.val
  omega

/-- A weight after the prep call. -/
theorem weight_chan (c : Dev nD) (l : Fin 12288) (n : Fin 4608) (k : Fin 28) (h : InCluster (bnd m c) l.val k) :
    wdA m ρ c (ix2 l n) = field ((show IVec S12288x2304 8 from m ((c : Thread nD τ).loc main_arg6)) (ix2 l ⟨n.val / 2, by omega⟩)) n
      * (show FVec Ideal S28x4608 .f32 from m ((c : Thread nD τ).loc main_arg7)) (ix2 k n) := by
  have e := congrFun ((W9_arr m ρ c 5).trans (wdArr (V8 m ρ) c)) (ix2 l n)
  refine e.trans ?_
  have hw : V8 m ρ c (Pipeline.arrRef spec0 4) = m ((c : Thread nD τ).loc main_arg6) := W8_args m ρ c main_arg6 (by decide)
  rw [hw]
  refine congr (congrArg HMul.hMul rfl) ?_
  refine Eq.trans ?_ ((hot_sum h l.isLt fun q => (show FVec Ideal S32x4608 .bf16 from V8 m ρ c main_v1) (ix2 q n)).trans (ws_at m ρ c k n))
  refine Finset.sum_congr rfl fun q _ => ?_
  rw [← lo_at m ρ c q, ← hi_at m ρ c q]
  rfl

/-- The codes. -/
theorem codes_out (c : Dev nD) (cid : Fin 12288 → Fin 28) (h : ∀ l, InCluster (bnd m c) l.val (cid l)) :
    W14 m ρ c (Proc.devRef .tc main_v17_1) = codesFn (rows (X0 m c) (X1 m c) (X2 m c)) cid (m ((c : Thread nD τ).loc main_arg4)) (m ((c : Thread nD τ).loc main_arg5)) := by
  funext i
  refine (codes_3 m ρ c i).trans ?_
  unfold codesOf codesFn
  rw [scale_chan m ρ c (i 1) _ (h (i 1)), zero_chan m ρ c (i 1) _ (h (i 1))]

/-- The product. -/
theorem y_out (c : Dev nD) (cid : Fin 12288 → Fin 28) (h : ∀ l, InCluster (bnd m c) l.val (cid l)) :
    W14 m ρ c (Proc.devRef .tc main_v17_0) = yFn (rows (X0 m c) (X1 m c) (X2 m c)) cid (m ((c : Thread nD τ).loc main_arg4)) (m ((c : Thread nD τ).loc main_arg5))
      (m ((c : Thread nD τ).loc main_arg6)) (m ((c : Thread nD τ).loc main_arg7)) := by
  funext i
  refine (y_3 m ρ c i).trans (show yOf _ _ _ i = yFn _ _ _ _ _ _ i from ?_)
  unfold yOf yFn
  refine Finset.sum_congr rfl fun l _ => ?_
  rw [scale_chan m ρ c l _ (h l), zero_chan m ρ c l _ (h l), weight_chan m ρ c l (i 1) _ (h l)]

end Cert.KernelIdeal.Gen
-- ==== Proof.Val.RefCid.lean ====
/- The reference's cluster numbers, and its reads of the clusters' scales, zero points and weight scales by them. -/
module

public import proofs.«01_k».proof.Proof.Gen.ReferenceIdeal.Read
public import proofs.«01_k».proof.Proof.Val.PreRead
public import Idealize.ShloMosaic.Lib.Routing.OpsSet
public import Idealize.ShloMosaic.Lib.Routing.OpsPair

@[expose] public section
set_option maxRecDepth 16384
noncomputable section
namespace Cert.ReferenceIdeal.Read
open Idealize.ShloMosaic Cert.Spec
open Cert.ReferenceIdeal.Facts₀ Cert.ReferenceIdeal.Facts

variable (x3 : IVec S29 32) (x4 : FVec Ideal S28 .f32) (x5 : IVec S28 32) (x7 : FVec Ideal S28x4608 .f32)

/-- How many bounds are at or below a channel: one more than its cluster's number. -/
theorem v1_at (l : Fin 12288) (c : Fin 28) (h : InCluster (bd x3) l.val c) : val_main_v1 (F := Ideal) x3 (ValueIdx.ix1 l) = BitVec.ofNat 32 (c.val + 1) := by
  apply BitVec.eq_of_toNat_eq
  have hc := c.isLt
  refine (StableHlo.Predicate.toNat_reduce_count_rows (by decide) (val_main_call0_call0_v4 (F := Ideal) x3) _ _ _ _).trans ?_
  rw [BitVec.toNat_ofNat, Nat.mod_eq_of_lt (by omega), ← count_cluster h (fun k => (bd x3 k).toInt ≤ (l.val : ℤ)) (fun k _ => Iff.rfl), ← Routing.card_filter_fin]
  refine congrArg Finset.card (Finset.filter_congr fun p _ => ?_)
  have e0 : val_main_call0_call0_v2 (F := Ideal) x3 (StableHlo.Predicate.ij p l) = bd x3 p.val := by
    rw [val_main_call0_call0_v2_apply, val_main_call0_call0_v1_apply]
    unfold bd
    refine congrArg x3 (funext fun a => match a with | ⟨0, _⟩ => Fin.ext ?_)
    show p.val = p.val % 29
    omega
  have e1 : val_main_call0_call0_v3 (F := Ideal) (StableHlo.Predicate.ij p l) = BitVec.ofNat 32 l.val := by
    rw [val_main_call0_call0_v3_apply, val_main_call0_call0_v0_apply]
    rfl
  show val_main_call0_call0_v4 (F := Ideal) x3 (StableHlo.Predicate.ij p l) = 1#1 ↔ _
  rw [val_main_call0_call0_v4_apply, e0, e1, ← toInt_chan (show l.val ≤ 12288 by omega)]
  exact ⟨sle_toInt _ _, fun q => by simp [IntOp.cmpi, BitVec.sle_eq_decide, q]⟩

/-- A channel's cluster number. -/
theorem v3_at (l : Fin 12288) (c : Fin 28) (h : InCluster (bd x3) l.val c) : val_main_v3 (F := Ideal) x3 (ValueIdx.ix1 l) = BitVec.ofNat 32 c.val := by
  rw [val_main_v3_apply, v1_at x3 l c h, val_main_v2_apply]
  show BitVec.ofNat 32 (c.val + 1) - 1#32 = _
  rw [BitVec.ofNat_add]
  simp

/-- The number as an index: it is not negative, so it stays as it is. -/
theorem v19_at (l : Fin 12288) (c : Fin 28) (h : InCluster (bd x3) l.val c) : val_main_v19 (F := Ideal) x3 (ValueIdx.ix1 l) = BitVec.ofNat 32 c.val := by
  have hc := c.isLt
  rw [val_main_v19_apply, val_main_v16_apply, val_main_v15_apply, v3_at x3 l c h]
  exact Routing.wrap_of_lt _ _ (by rw [BitVec.toNat_ofNat, Nat.mod_eq_of_lt (by omega)]; omega)

/-- The same as a column. -/
theorem v20_at (l : Fin 12288) (c : Fin 28) (h : InCluster (bd x3) l.val c) : val_main_v20 (F := Ideal) x3 (ValueIdx.ix2 l 0) = BitVec.ofNat 32 c.val := by
  rw [val_main_v20_apply, ← v19_at x3 l c h]
  refine congrArg _ (funext fun a => match a with | ⟨0, _⟩ => rfl)

/-- Each read computes the same column of indices. -/
theorem v31_eq : val_main_v31 (F := Ideal) x3 = val_main_v20 (F := Ideal) x3 := rfl
/-- Likewise. -/
theorem v47_eq : val_main_v47 (F := Ideal) x3 = val_main_v20 (F := Ideal) x3 := rfl
/-- Likewise. -/
theorem v58_eq : val_main_v58 (F := Ideal) x3 = val_main_v20 (F := Ideal) x3 := rfl
/-- Likewise. -/
theorem v88_eq : val_main_v88 (F := Ideal) x3 = val_main_v20 (F := Ideal) x3 := rfl
/-- Likewise. -/
theorem v97_eq : val_main_v97 (F := Ideal) x3 = val_main_v20 (F := Ideal) x3 := rfl

/-- A channel's scale. -/
theorem v21_at (l : Fin 12288) (c : Fin 28) (h : InCluster (bd x3) l.val c) : val_main_v21 (F := Ideal) x3 x4 (ValueIdx.ix1 l) = x4 (ValueIdx.ix1 c) :=
  Routing.gather_take1 _ rfl rfl rfl rfl x4 _ l c (v20_at x3 l c h) (by decide)
/-- The scale, read again. -/
theorem v59_at (l : Fin 12288) (c : Fin 28) (h : InCluster (bd x3) l.val c) : val_main_v59 (F := Ideal) x3 x4 (ValueIdx.ix1 l) = x4 (ValueIdx.ix1 c) := by
  unfold val_main_v59
  rw [v58_eq]
  exact Routing.gather_take1 _ rfl rfl rfl rfl x4 _ l c (v20_at x3 l c h) (by decide)
/-- A channel's zero point. -/
theorem v32_at (l : Fin 12288) (c : Fin 28) (h : InCluster (bd x3) l.val c) : val_main_v32 (F := Ideal) x3 x5 (ValueIdx.ix1 l) = x5 (ValueIdx.ix1 c) := by
  unfold val_main_v32
  rw [v31_eq]
  exact Routing.gather_take1 _ rfl rfl rfl rfl x5 _ l c (v20_at x3 l c h) (by decide)
/-- The zero point, read again. -/
theorem v48_at (l : Fin 12288) (c : Fin 28) (h : InCluster (bd x3) l.val c) : val_main_v48 (F := Ideal) x3 x5 (ValueIdx.ix1 l) = x5 (ValueIdx.ix1 c) := by
  unfold val_main_v48
  rw [v47_eq]
  exact Routing.gather_take1 _ rfl rfl rfl rfl x5 _ l c (v20_at x3 l c h) (by decide)

/-- The even columns' weight scales. -/
theorem v82_at (c : Fin 28) (n : Fin 2304) : val_main_v82 (F := Ideal) x7 (ValueIdx.ix2 c n) = x7 (ValueIdx.ix2 c ⟨2 * n.val, by omega⟩) := by
  unfold val_main_v82 Host.slice
  show x7 _ = _
  refine congrArg x7 (funext fun a => match a with | ⟨0, _⟩ => Fin.ext ?_ | ⟨1, _⟩ => Fin.ext ?_)
  · show 0 + 1 * c.val = c.val; omega
  · show 0 + 2 * n.val = 2 * n.val; omega
/-- The odd columns' weight scales. -/
theorem v91_at (c : Fin 28) (n : Fin 2304) : val_main_v91 (F := Ideal) x7 (ValueIdx.ix2 c n) = x7 (ValueIdx.ix2 c ⟨2 * n.val + 1, by omega⟩) := by
  unfold val_main_v91 Host.slice
  show x7 _ = _
  refine congrArg x7 (funext fun a => match a with | ⟨0, _⟩ => Fin.ext ?_ | ⟨1, _⟩ => Fin.ext ?_)
  · show 0 + 1 * c.val = c.val; omega
  · show 1 + 2 * n.val = 2 * n.val + 1; omega

/-- The channels' even weight scales. -/
theorem v89_at (l : Fin 12288) (c : Fin 28) (h : InCluster (bd x3) l.val c) (n : Fin 2304) :
    val_main_v89 (F := Ideal) x3 x7 (ValueIdx.ix2 l n) = x7 (ValueIdx.ix2 c ⟨2 * n.val, by omega⟩) := by
  unfold val_main_v89
  rw [v88_eq, ← v82_at x7 c n]
  exact Routing.gather_row _ rfl rfl rfl rfl rfl _ _ l n c (v20_at x3 l c h) (by decide)
/-- The channels' odd weight scales. -/
theorem v98_at (l : Fin 12288) (c : Fin 28) (h : InCluster (bd x3) l.val c) (n : Fin 2304) :
    val_main_v98 (F := Ideal) x3 x7 (ValueIdx.ix2 l n) = x7 (ValueIdx.ix2 c ⟨2 * n.val + 1, by omega⟩) := by
  unfold val_main_v98
  rw [v97_eq, ← v91_at x7 c n]
  exact Routing.gather_row _ rfl rfl rfl rfl rfl _ _ l n c (v20_at x3 l c h) (by decide)

end Cert.ReferenceIdeal.Read
-- ==== Proof.Val.Quant.lean ====
/- The quantiser's value is a whole number from -128 to 127 when the zero point is a whole number, so its code as a signed byte
   stands for it exactly. -/
module

public import proofs.«01_k».proof.Proof.Val.Spec

@[expose] public section
noncomputable section
namespace Cert.Spec
open Idealize.ShloMosaic

/-- The upper end of the range. -/
theorem ofBits_hi : Ideal.ofBits FTy.f32 1123942400#32 = ((127 : ℝ) : EReal) := by
  simp [Ideal.ofBits, Ideal.ieee, -EReal.coe_mul]; norm_num
/-- The lower end of the range. -/
theorem ofBits_lo : Ideal.ofBits FTy.f32 3271557120#32 = ((-128 : ℝ) : EReal) := by
  simp [Ideal.ofBits, Ideal.ieee, -EReal.coe_mul]; norm_num

/-- The clipped, shifted, rounded quotient is a whole number in the byte's range. -/
theorem quant_int (x s : EReal) (z : ℤ) : ∃ n : ℤ, -128 ≤ n ∧ n ≤ 127 ∧ quant x s ((z : ℝ) : EReal) = ((n : ℝ) : EReal) := by
  unfold quant
  rw [ofBits_hi, ofBits_lo]
  generalize Ideal.div x s = y
  induction y using EReal.rec with
  | bot =>
    refine ⟨-128, by norm_num, by norm_num, ?_⟩
    rw [Ideal.liftRound_bot, EReal.bot_add, max_eq_left bot_le, min_eq_right (by exact_mod_cast (by norm_num : (-128 : ℝ) ≤ 127))]
    norm_num
  | top =>
    refine ⟨127, by norm_num, by norm_num, ?_⟩
    rw [Ideal.liftRound_top, EReal.top_add_coe, max_eq_right le_top, min_eq_left le_top]
    norm_num
  | coe r =>
    refine ⟨min 127 (max (-128) (Ideal.roundHalfEven r + z)), by omega, by omega, ?_⟩
    rw [Ideal.liftRound_coe, ← EReal.coe_add, ← EReal.coe_strictMono.monotone.map_max, ← EReal.coe_strictMono.monotone.map_min]
    refine congrArg _ ?_
    push_cast
    rfl

/-- A whole number in a width's range, converted to a word of that width. -/
theorem fptosi_int (w : ℕ) (n : ℤ) (h0 : -((2 ^ (w - 1) : ℕ) : ℤ) ≤ n) (h1 : n ≤ ((2 ^ (w - 1) : ℕ) : ℤ) - 1) :
    Ideal.fptosi w ((n : ℝ) : EReal) = BitVec.ofInt w n := by
  unfold Ideal.fptosi
  rw [Ideal.toIntClamped_coe, Int.floor_intCast, Int.ceil_intCast, ite_self, min_eq_right h1, max_eq_right h0]

/-- Converting to a 32-bit word and keeping its low byte is converting to a byte. -/
theorem trunc_code (x s : EReal) (z : ℤ) :
    (FloatOps.fptosi (F := Ideal) (φ := .f32) 32 (quant x s ((z : ℝ) : EReal))).setWidth 8 = code x s ((z : ℝ) : EReal) := by
  obtain ⟨n, h0, h1, e⟩ := quant_int x s z
  unfold code
  rw [e]
  show (Ideal.fptosi 32 _).setWidth 8 = Ideal.fptosi 8 _
  rw [fptosi_int 32 n (by norm_num; omega) (by norm_num; omega), fptosi_int 8 n (by norm_num; omega) (by norm_num; omega)]
  apply BitVec.eq_of_toNat_eq
  rw [BitVec.toNat_setWidth, BitVec.toNat_ofInt, BitVec.toNat_ofInt]
  norm_num
  omega

/-- The code stands for the quantiser's value. -/
theorem code_val (x s : EReal) (z : ℤ) : ((((code x s ((z : ℝ) : EReal)).signExtend 32).toInt : ℝ) : EReal) = quant x s ((z : ℝ) : EReal) := by
  obtain ⟨n, h0, h1, e⟩ := quant_int x s z
  unfold code
  rw [e]
  show ((((Ideal.fptosi 8 _).signExtend 32).toInt : ℝ) : EReal) = _
  rw [fptosi_int 8 n (by norm_num; omega) (by norm_num; omega), BitVec.toInt_signExtend_of_le (by decide), BitVec.toInt_ofInt]
  congr 2
  rw [Int.bmod_eq_of_le] <;> norm_num <;> omega

end Cert.Spec
-- ==== Proof.Val.RefVal.lean ====
/- The reference's results as functions of its arguments, given each channel's cluster. -/
module

public import proofs.«01_k».proof.Proof.Val.RefCid
public import proofs.«01_k».proof.Proof.Val.Quant
public import proofs.«01_k».proof.Proof.Val.Kernel
public import Idealize.ShloMosaic.Lib.BitcastConvert

@[expose] public section
set_option maxRecDepth 16384
noncomputable section
namespace Cert.ReferenceIdeal.Read
open Idealize.ShloMosaic Cert.Spec
open Cert.ReferenceIdeal.Facts₀ Cert.ReferenceIdeal.Facts
open Cert.KernelIdeal.Gen (rows)

variable (x0 : IVec S384x12288 32) (x1 : IVec S1152x12288 32) (x2 : IVec S2304x12288 32)
variable (x3 : IVec S29 32) (x4 : FVec Ideal S28 .f32) (x5 : IVec S28 32) (x6 : IVec S12288x2304 8) (x7 : FVec Ideal S28x4608 .f32)

/-- Equal halves of equal words. -/
theorem ext16 {w w' : BitVec 32} {k k' : ℕ} (hw : w = w') (hk : k = k') : w.extractLsb' k 16 = w'.extractLsb' k' 16 := by rw [hw, hk]

/-- The first rows, unpacked from their words. -/
theorem v6_at (r : Fin 768) (l : Fin 12288) : val_main_v6 (F := Ideal) x0 (ValueIdx.ix2 r l) = row (h := 384) x0 r.val l := by
  rw [val_main_v6_apply, val_main_v5_apply]
  unfold val_main_v4 row
  show Ideal.ofBits .bf16 (Host.bitcastConvertNarrow S384x12288x2 16 x0 splits_S384x12288_w32_S384x12288x2_w16 _) = _
  rw [Host.bitcastConvertNarrow_apply]
  have hl := l.isLt
  refine congrArg (Ideal.ofBits .bf16) (ext16 (congrArg x0 (funext fun a => ?_)) ?_)
  · match a with
    | ⟨0, _⟩ => exact Fin.ext (by show (r.val * 12288 + l.val) / 24576 = r.val / 2 % 384; omega)
    | ⟨1, _⟩ => exact Fin.ext (by show (r.val * 12288 + l.val) % 12288 = l.val; omega)
  · show (r.val * 12288 + l.val) / 12288 % 2 * 16 = 16 * (r.val % 2)
    omega
/-- The next rows. -/
theorem v9_at (r : Fin 2304) (l : Fin 12288) : val_main_v9 (F := Ideal) x1 (ValueIdx.ix2 r l) = row (h := 1152) x1 r.val l := by
  rw [val_main_v9_apply, val_main_v8_apply]
  unfold val_main_v7 row
  show Ideal.ofBits .bf16 (Host.bitcastConvertNarrow S1152x12288x2 16 x1 splits_S1152x12288_w32_S1152x12288x2_w16 _) = _
  rw [Host.bitcastConvertNarrow_apply]
  have hl := l.isLt
  refine congrArg (Ideal.ofBits .bf16) (ext16 (congrArg x1 (funext fun a => ?_)) ?_)
  · match a with
    | ⟨0, _⟩ => exact Fin.ext (by show (r.val * 12288 + l.val) / 24576 = r.val / 2 % 1152; omega)
    | ⟨1, _⟩ => exact Fin.ext (by show (r.val * 12288 + l.val) % 12288 = l.val; omega)
  · show (r.val * 12288 + l.val) / 12288 % 2 * 16 = 16 * (r.val % 2)
    omega
/-- The last rows. -/
theorem v12_at (r : Fin 4608) (l : Fin 12288) : val_main_v12 (F := Ideal) x2 (ValueIdx.ix2 r l) = row (h := 2304) x2 r.val l := by
  rw [val_main_v12_apply, val_main_v11_apply]
  unfold val_main_v10 row
  show Ideal.ofBits .bf16 (Host.bitcastConvertNarrow S2304x12288x2 16 x2 splits_S2304x12288_w32_S2304x12288x2_w16 _) = _
  rw [Host.bitcastConvertNarrow_apply]
  have hl := l.isLt
  refine congrArg (Ideal.ofBits .bf16) (ext16 (congrArg x2 (funext fun a => ?_)) ?_)
  · match a with
    | ⟨0, _⟩ => exact Fin.ext (by show (r.val * 12288 + l.val) / 24576 = r.val / 2 % 2304; omega)
    | ⟨1, _⟩ => exact Fin.ext (by show (r.val * 12288 + l.val) % 12288 = l.val; omega)
  · show (r.val * 12288 + l.val) / 12288 % 2 * 16 = 16 * (r.val % 2)
    omega

/-- All the rows. -/
theorem v13_at (r : Fin 7680) (l : Fin 12288) : val_main_v13 (F := Ideal) x0 x1 x2 (ix2 r l) = rows x0 x1 x2 r.val l := by
  unfold val_main_v13
  generalize e0 : val_main_v6 (F := Ideal) x0 = y0
  generalize e1 : val_main_v9 (F := Ideal) x1 = y1
  generalize e2 : val_main_v12 (F := Ideal) x2 = y2
  pointwise
  subst e0 e1 e2
  unfold rows
  have hr := r.isLt
  by_cases h0 : r.val < 768
  · rw [dif_pos h0, if_pos h0]
    exact v6_at x0 ⟨r.val, h0⟩ l
  · rw [dif_neg h0, if_neg h0]
    by_cases h1 : r.val < 3072
    · rw [dif_pos (by omega), if_pos h1]
      exact v9_at x1 ⟨r.val - 768, by omega⟩ l
    · rw [dif_neg (by omega), if_neg h1, ← v12_at x2 ⟨r.val - 3072, by omega⟩ l]
      refine congrArg (val_main_v12 (F := Ideal) x2) (congrArg (fun q => ix2 q l) (Fin.ext ?_))
      show r.val - 768 - 2304 = r.val - 3072
      omega

/-- The quantiser's value. -/
theorem v37_at (cid : Fin 12288 → Fin 28) (h : ∀ l, InCluster (bd x3) l.val (cid l)) (r : Fin 7680) (l : Fin 12288) :
    val_main_v37 (F := Ideal) x0 x1 x2 x3 x4 x5 (ValueIdx.ix2 r l) = quant (rows x0 x1 x2 r.val l) (x4 (ValueIdx.ix1 (cid l))) (((x5 (ValueIdx.ix1 (cid l))).toInt : ℝ) : EReal) := by
  have e : ∀ i : S12288.Idx, i 0 = l → i = ValueIdx.ix1 l := fun i hi => funext fun a => match a with | ⟨0, _⟩ => hi
  have e4 : val_main_v23 (F := Ideal) x3 x4 (ValueIdx.ix2 r l) = x4 (ValueIdx.ix1 (cid l)) := by
    rw [val_main_v23_apply, val_main_v22_apply, e (idx_main_v22 _) rfl, v21_at x3 x4 l _ (h l)]
  have e5 : val_main_v35 (F := Ideal) x3 x5 (ValueIdx.ix2 r l) = (((x5 (ValueIdx.ix1 (cid l))).toInt : ℝ) : EReal) := by
    rw [val_main_v35_apply, val_main_v34_apply, e (idx_main_v34 _) rfl, val_main_v33_apply, v32_at x3 x5 l _ (h l)]
    rfl
  have e14 : val_main_v14 (F := Ideal) x0 x1 x2 (ValueIdx.ix2 r l) = rows x0 x1 x2 r.val l := v13_at x0 x1 x2 r l
  rw [val_main_v37_apply, val_main_call2_v4_apply, val_main_call2_v2_apply, val_main_call2_v1_apply, val_main_v36_apply, val_main_v25_apply, val_main_v24_apply, e4, e5, e14]
  rfl

/-- A code. -/
theorem v39_at (cid : Fin 12288 → Fin 28) (h : ∀ l, InCluster (bd x3) l.val (cid l)) (r : Fin 7680) (l : Fin 12288) :
    val_main_v39 (F := Ideal) x0 x1 x2 x3 x4 x5 (ValueIdx.ix2 r l) = code (rows x0 x1 x2 r.val l) (x4 (ValueIdx.ix1 (cid l))) (((x5 (ValueIdx.ix1 (cid l))).toInt : ℝ) : EReal) := by
  rw [val_main_v39_apply, val_main_v38_apply, v37_at x0 x1 x2 x3 x4 x5 cid h]
  exact trunc_code _ _ _

/-- The value that a code stands for. -/
theorem v63_at (cid : Fin 12288 → Fin 28) (h : ∀ l, InCluster (bd x3) l.val (cid l)) (r : Fin 7680) (l : Fin 12288) :
    val_main_v63 (F := Ideal) x0 x1 x2 x3 x4 x5 (ValueIdx.ix2 r l) = deq (rows x0 x1 x2 r.val l) (x4 (ValueIdx.ix1 (cid l))) (((x5 (ValueIdx.ix1 (cid l))).toInt : ℝ) : EReal) := by
  have e : ∀ i : S12288.Idx, i 0 = l → i = ValueIdx.ix1 l := fun i hi => funext fun a => match a with | ⟨0, _⟩ => hi
  have e4 : val_main_v62 (F := Ideal) x3 x4 (ValueIdx.ix2 r l) = x4 (ValueIdx.ix1 (cid l)) := by
    rw [val_main_v62_apply, val_main_v61_apply, e (idx_main_v61 _) rfl, val_main_v60_apply, v59_at x3 x4 l _ (h l)]
    rfl
  have e5 : val_main_v51 (F := Ideal) x3 x5 (ValueIdx.ix2 r l) = (((x5 (ValueIdx.ix1 (cid l))).toInt : ℝ) : EReal) := by
    rw [val_main_v51_apply, val_main_v50_apply, e (idx_main_v50 _) rfl, val_main_v49_apply, v48_at x3 x5 l _ (h l)]
    rfl
  rw [val_main_v63_apply, val_main_v52_apply, e4, e5, val_main_v41_apply, val_main_v40_apply, v39_at x0 x1 x2 x3 x4 x5 cid h]
  unfold deq
  rw [← code_val (rows x0 x1 x2 r.val l) (x4 (ValueIdx.ix1 (cid l))) (x5 (ValueIdx.ix1 (cid l))).toInt]
  rfl

/-- The byte's low field as a signed number. -/
theorem low_at : ∀ b : BitVec 8, (Scalar.select (IntOp.cmpi .sge (IntOp.andi (b.setWidth 32) 15#32) 8#32) (IntOp.subi (IntOp.andi (b.setWidth 32) 15#32) 16#32) (IntOp.andi (b.setWidth 32) 15#32)).toInt
    = (b.extractLsb' 0 4).toInt := by decide +kernel
/-- The byte's high field as a signed number. -/
theorem high_at : ∀ b : BitVec 8, (Scalar.select (IntOp.cmpi .sge (IntOp.shrsi .host (b.setWidth 32) 4#32) 8#32) (IntOp.subi (IntOp.shrsi .host (b.setWidth 32) 4#32) 16#32) (IntOp.shrsi .host (b.setWidth 32) 4#32)).toInt
    = (b.extractLsb' 4 4).toInt := by decide +kernel

/-- An even column's weight. -/
theorem v90_at (l : Fin 12288) (c : Fin 28) (h : InCluster (bd x3) l.val c) (n : Fin 2304) :
    val_main_v90 (F := Ideal) x3 x6 x7 (ValueIdx.ix2 l n) = field (x6 (ValueIdx.ix2 l n)) 0 * x7 (ValueIdx.ix2 c ⟨2 * n.val, by omega⟩) := by
  rw [val_main_v90_apply, v89_at x3 x7 l c h]
  exact congrArg (fun k : ℤ => (((k : ℝ) : EReal) * x7 (ValueIdx.ix2 c ⟨2 * n.val, by omega⟩) : EReal)) (low_at (x6 (ValueIdx.ix2 l n)))
/-- An odd column's weight. -/
theorem v99_at (l : Fin 12288) (c : Fin 28) (h : InCluster (bd x3) l.val c) (n : Fin 2304) :
    val_main_v99 (F := Ideal) x3 x6 x7 (ValueIdx.ix2 l n) = field (x6 (ValueIdx.ix2 l n)) 1 * x7 (ValueIdx.ix2 c ⟨2 * n.val + 1, by omega⟩) := by
  rw [val_main_v99_apply, v98_at x3 x7 l c h]
  exact congrArg (fun k : ℤ => (((k : ℝ) : EReal) * x7 (ValueIdx.ix2 c ⟨2 * n.val + 1, by omega⟩) : EReal)) (high_at (x6 (ValueIdx.ix2 l n)))

/-- The two products side by side, at an index. -/
theorem cat_at (y0 y1 : FVec Ideal S7680x2304x1 .f32) (r : Fin 7680) (n : Fin 2304) (p : Fin 2) :
    concatenate S7680x2304x2 2 [⟨S7680x2304x1, y0⟩, ⟨S7680x2304x1, y1⟩] concatenates_S7680x2304x1_S7680x2304x1_S7680x2304x2_d2 (ix3 r n p)
      = if p.val = 0 then y0 (ix3 r n 0) else y1 (ix3 r n 0) := by
  pointwise
  obtain ⟨p, hp⟩ := p
  rcases (by omega : p = 0 ∨ p = 1) with rfl | rfl <;> rfl

/-- The even columns' product. -/
theorem v100_at (cid : Fin 12288 → Fin 28) (h : ∀ l, InCluster (bd x3) l.val (cid l)) (r : Fin 7680) (n : Fin 2304) :
    val_main_v100 (F := Ideal) x0 x1 x2 x3 x4 x5 x6 x7 (ix2 r n) = ∑ l : Fin 12288,
      deq (rows x0 x1 x2 r.val l) (x4 (ValueIdx.ix1 (cid l))) (((x5 (ValueIdx.ix1 (cid l))).toInt : ℝ) : EReal) *
        (field (x6 (ValueIdx.ix2 l n)) 0 * x7 (ValueIdx.ix2 (cid l) ⟨2 * n.val, by omega⟩)) := by
  rw [val_main_v100_apply]
  refine Finset.sum_congr rfl fun l _ => ?_
  have hl : lidx_main_v100 (ix2 r n) l = ValueIdx.ix2 r l := funext fun a => match a with | ⟨0, _⟩ => rfl | ⟨1, _⟩ => rfl
  have hr : ridx_main_v100 (ix2 r n) l = ValueIdx.ix2 l n := funext fun a => match a with | ⟨0, _⟩ => rfl | ⟨1, _⟩ => rfl
  rw [hl, hr, v63_at x0 x1 x2 x3 x4 x5 cid h r l, v90_at x3 x6 x7 l _ (h l) n]
/-- The odd columns' product. -/
theorem v101_at (cid : Fin 12288 → Fin 28) (h : ∀ l, InCluster (bd x3) l.val (cid l)) (r : Fin 7680) (n : Fin 2304) :
    val_main_v101 (F := Ideal) x0 x1 x2 x3 x4 x5 x6 x7 (ix2 r n) = ∑ l : Fin 12288,
      deq (rows x0 x1 x2 r.val l) (x4 (ValueIdx.ix1 (cid l))) (((x5 (ValueIdx.ix1 (cid l))).toInt : ℝ) : EReal) *
        (field (x6 (ValueIdx.ix2 l n)) 1 * x7 (ValueIdx.ix2 (cid l) ⟨2 * n.val + 1, by omega⟩)) := by
  rw [val_main_v101_apply]
  refine Finset.sum_congr rfl fun l _ => ?_
  have hl : lidx_main_v101 (ix2 r n) l = ValueIdx.ix2 r l := funext fun a => match a with | ⟨0, _⟩ => rfl | ⟨1, _⟩ => rfl
  have hr : ridx_main_v101 (ix2 r n) l = ValueIdx.ix2 l n := funext fun a => match a with | ⟨0, _⟩ => rfl | ⟨1, _⟩ => rfl
  rw [hl, hr, v63_at x0 x1 x2 x3 x4 x5 cid h r l, v99_at x3 x6 x7 l _ (h l) n]

/-- The codes are the program's. -/
theorem codes_ref (cid : Fin 12288 → Fin 28) (h : ∀ l, InCluster (bd x3) l.val (cid l)) :
    val_main_v39 (F := Ideal) x0 x1 x2 x3 x4 x5 = Cert.KernelIdeal.Gen.codesFn (rows x0 x1 x2) cid x4 x5 := by
  funext i
  obtain ⟨r, l, rfl⟩ : ∃ (r : Fin 7680) (l : Fin 12288), i = ValueIdx.ix2 r l := ⟨i 0, i 1, ValueIdx.eq_ix2 i⟩
  exact v39_at x0 x1 x2 x3 x4 x5 cid h r l

/-- A product's place in the pair. -/
theorem v102_at (r : Fin 7680) (n : Fin 2304) : val_main_v102 (F := Ideal) x0 x1 x2 x3 x4 x5 x6 x7 (ix3 r n 0) = val_main_v100 (F := Ideal) x0 x1 x2 x3 x4 x5 x6 x7 (ix2 r n) := by
  have e : idx_main_v102 (ix3 r n 0) = ix2 r n := funext fun a => match a with | ⟨0, _⟩ => rfl | ⟨1, _⟩ => rfl
  rw [val_main_v102_apply, e]
/-- The odd product's place in the pair. -/
theorem v103_at (r : Fin 7680) (n : Fin 2304) : val_main_v103 (F := Ideal) x0 x1 x2 x3 x4 x5 x6 x7 (ix3 r n 0) = val_main_v101 (F := Ideal) x0 x1 x2 x3 x4 x5 x6 x7 (ix2 r n) := by
  have e : idx_main_v103 (ix3 r n 0) = ix2 r n := funext fun a => match a with | ⟨0, _⟩ => rfl | ⟨1, _⟩ => rfl
  rw [val_main_v103_apply, e]

/-- The product at an element, from the two products. -/
theorem v106_at (r : Fin 7680) (n : Fin 4608) (k : Fin 2304) (hk : k.val = n.val / 2) : val_main_v106 (F := Ideal) x0 x1 x2 x3 x4 x5 x6 x7 (ValueIdx.ix2 r n)
    = if n.val % 2 = 0 then val_main_v100 (F := Ideal) x0 x1 x2 x3 x4 x5 x6 x7 (ix2 r k) else val_main_v101 (F := Ideal) x0 x1 x2 x3 x4 x5 x6 x7 (ix2 r k) := by
  have hn := n.isLt
  have hi : idx_main_v105 (ValueIdx.ix2 r n) = ix3 r k (⟨n.val % 2, by omega⟩ : Fin 2) := by
    funext a
    match a with
    | ⟨0, _⟩ => exact Fin.ext (by show (r.val * 4608 + n.val) / 4608 = r.val; omega)
    | ⟨1, _⟩ => exact Fin.ext (by show (r.val * 4608 + n.val) / 2 % 2304 = k.val; omega)
    | ⟨2, _⟩ => exact Fin.ext (by show (r.val * 4608 + n.val) % 2 = n.val % 2; omega)
  rw [val_main_v106_apply, val_main_v105_apply, hi, ← v102_at, ← v103_at]
  unfold val_main_v104
  exact cat_at _ _ r k _

/-- The product is the program's. -/
theorem y_ref (cid : Fin 12288 → Fin 28) (h : ∀ l, InCluster (bd x3) l.val (cid l)) :
    val_main_v106 (F := Ideal) x0 x1 x2 x3 x4 x5 x6 x7 = Cert.KernelIdeal.Gen.yFn (rows x0 x1 x2) cid x4 x5 x6 x7 := by
  funext i
  obtain ⟨r, n, rfl⟩ : ∃ (r : Fin 7680) (n : Fin 4608), i = ValueIdx.ix2 r n := ⟨i 0, i 1, ValueIdx.eq_ix2 i⟩
  have hn := n.isLt
  rw [v106_at x0 x1 x2 x3 x4 x5 x6 x7 r n ⟨n.val / 2, by omega⟩ rfl, v100_at x0 x1 x2 x3 x4 x5 x6 x7 cid h, v101_at x0 x1 x2 x3 x4 x5 x6 x7 cid h]
  show _ = ∑ l : Fin 12288, deq (rows x0 x1 x2 r.val l) (x4 (ValueIdx.ix1 (cid l))) (((x5 (ValueIdx.ix1 (cid l))).toInt : ℝ) : EReal) *
    (field (x6 (ValueIdx.ix2 l ⟨n.val / 2, by omega⟩)) n.val * x7 (ValueIdx.ix2 (cid l) n))
  by_cases h2 : n.val % 2 = 0
  · rw [if_pos h2]
    refine Finset.sum_congr rfl fun l _ => congrArg _ (congr (congrArg HMul.hMul ?_) (congrArg x7 (congrArg (ValueIdx.ix2 (cid l)) (Fin.ext ?_))))
    · unfold field; rw [h2]
    · show 2 * (n.val / 2) = n.val; omega
  · rw [if_neg h2]
    refine Finset.sum_congr rfl fun l _ => congrArg _ (congr (congrArg HMul.hMul ?_) (congrArg x7 (congrArg (ValueIdx.ix2 (cid l)) (Fin.ext ?_))))
    · unfold field; rw [show n.val % 2 = 1 by omega]
    · show 2 * (n.val / 2) + 1 = n.val; omega

end Cert.ReferenceIdeal.Read
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.RunIdeal.Frame
public import proofs.«01_k».proof.Proof.Transfer
public import proofs.«01_k».proof.Proof.Val.Kernel
public import proofs.«01_k».proof.Proof.Val.RefVal
public import Idealize.ShloMosaic.Adequacy
public import Idealize.ShloMosaic.Lib.Claim
public import Idealize.ShloMosaic.Init

@[expose] public section

noncomputable section

namespace Cert.Proof

open Idealize.ShloMosaic Idealize.SL.Sem Cert.Spec

open Cert.KernelIdeal Cert.KernelIdeal.Gen in
/-- Under the precondition both programs leave the same codes and the same product. -/
theorem algebraic : Cert.algebraic_KernelIdeal_ReferenceIdeal_pre_sorted_bounds (hKernelIdeal := Cert.KernelIdeal.Gen.facts)
    (hReferenceIdeal := Cert.ReferenceIdeal.Gen.facts) (hPre_sorted_bounds := preFacts) := by
  intro m g m' g' hpre hagree
  have hA : ∀ c, Ascend (bnd m c) := fun c => ascend_of_pre _ _ _ _ _ _ _ _ (hpre c)
  choose cid hcid using fun (c : Dev nD) (l : Fin 12288) => exists_cluster (hA c) l.isLt
  refine ⟨fun c => W14 m g c (Proc.devRef .tc main_v17_0), fun c => W14 m g c (Proc.devRef .tc main_v17_1), ?_, ?_⟩
  · refine (θ_run defs _ _).mono (fun r h c => ?_) (final m g)
    exact ⟨h.1 c _ (mem_uc main_v17_0 (by decide)), h.1 c _ (mem_uc main_v17_1 (by decide)),
      (h.1 c _ (mem_uc main_arg0 (by decide))).trans (W14_main_arg0 m g c),
      (h.1 c _ (mem_uc main_arg1 (by decide))).trans (W14_main_arg1 m g c),
      (h.1 c _ (mem_uc main_arg2 (by decide))).trans (W14_main_arg2 m g c),
      (h.1 c _ (mem_uc main_arg3 (by decide))).trans (W14_main_arg3 m g c),
      (h.1 c _ (mem_uc main_arg4 (by decide))).trans (W14_main_arg4 m g c),
      (h.1 c _ (mem_uc main_arg5 (by decide))).trans (W14_main_arg5 m g c),
      (h.1 c _ (mem_uc main_arg6 (by decide))).trans (W14_main_arg6 m g c),
      (h.1 c _ (mem_uc main_arg7 (by decide))).trans (W14_main_arg7 m g c)⟩
  · refine (θ_run _ _ _).mono (fun r h c => ?_) (Cert.ReferenceIdeal.Value.run m' g')
    obtain ⟨e0, e1, e2, e3, e4, e5, e6, e7⟩ := hagree c
    refine ⟨(h c).1.trans ?_, (h c).2.1.trans ?_, (h c).2.2⟩
    · rw [Cert.ReferenceIdeal.Read.val_main_v106_eq, e0, e1, e2, e3, e4, e5, e6, e7]
      refine (Cert.ReferenceIdeal.Read.y_ref _ _ _ _ _ _ _ _ (cid c) (hcid c)).trans ?_
      exact (y_out m g c (cid c) (hcid c)).symm
    · rw [Cert.ReferenceIdeal.Read.val_main_v39_eq, e0, e1, e2, e3, e4, e5]
      refine (Cert.ReferenceIdeal.Read.codes_ref _ _ _ _ _ _ (cid c) (hcid c)).trans ?_
      exact (codes_out m g c (cid c) (hcid c)).symm

/-- Every claim. -/
theorem claim : Cert.Claim := ⟨Cert.Kernel.Gen.facts, Cert.KernelIdeal.Gen.facts, Cert.ReferenceIdeal.Gen.facts, preFacts, by
  refine ⟨Cert.Transfer.quiescent, fun m ρ _ => Cert.KernelIdeal.Gen.frame m ρ, fun m ρ _ => Cert.KernelIdeal.Gen.frame m ρ, ?_, ?_, trivial, algebraic⟩
  all_goals
    intro m g _
    run_from Cert.ReferenceIdeal.Value.run m g
    all_goals first | exact fun _ => ⟨trivial, trivial, trivial, trivial, trivial, trivial, trivial, trivial⟩ | exact Idealize.ShloMosaic.sem_eq_zero_of_no_sems (sig := Cert.ReferenceIdeal.sig) (by decide) _⟩

end Cert.Proof

end
